-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) : IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  main_v2
-- ==== Kernel.lean ====
abbrev S8192x512 : Shape := ⟨2, ![8192, 512]⟩
abbrev S8192x1 : Shape := ⟨2, ![8192, 1]⟩
abbrev S8192 : Shape := ⟨1, ![8192]⟩
abbrev S512x8192 : Shape := ⟨2, ![512, 8192]⟩
abbrev S1x8192 : Shape := ⟨2, ![1, 8192]⟩
abbrev S8192x16 : Shape := ⟨2, ![8192, 16]⟩
abbrev S1024x512 : Shape := ⟨2, ![1024, 512]⟩
abbrev S512x2048 : Shape := ⟨2, ![512, 2048]⟩
abbrev S1024x1 : Shape := ⟨2, ![1024, 1]⟩
abbrev S1x2048 : Shape := ⟨2, ![1, 2048]⟩
abbrev S1024x16 : Shape := ⟨2, ![1024, 16]⟩
abbrev S1024x2048 : Shape := ⟨2, ![1024, 2048]⟩
abbrev S1024x128 : Shape := ⟨2, ![1024, 128]⟩
abbrev S64x1 : Shape := ⟨2, ![64, 1]⟩
abbrev S64x128 : Shape := ⟨2, ![64, 128]⟩
abbrev S1x1024x128 : Shape := ⟨3, ![1, 1024, 128]⟩
abbrev S1 : Shape := ⟨1, ![1]⟩
abbrev S1x1x1 : Shape := ⟨3, ![1, 1, 1]⟩
abbrev S1024 : Shape := ⟨1, ![1024]⟩
abbrev S131072 : Shape := ⟨1, ![131072]⟩

abbrev nBuf : Space → Nat
  | .hbm => 9
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x1, .f32⟩
  | .hbm, ⟨2, _⟩ => ⟨S512x8192, .f32⟩
  | .hbm, ⟨3, _⟩ => ⟨S1x8192, .f32⟩
  | .hbm, ⟨4, _⟩ => ⟨S8192x16, .i32⟩
  | .hbm, ⟨5, _⟩ => ⟨S131072, .i32⟩
  | .hbm, ⟨6, _⟩ => ⟨S8192, .i32⟩
  | .hbm, ⟨7, _⟩ => ⟨S8192x16, .i32⟩
  | .hbm, ⟨8, _⟩ => ⟨S131072, .i32⟩
  | .local _ .vmem, ⟨0, _⟩ => ⟨S8192x512, .f32⟩
  | .local _ .vmem, ⟨1, _⟩ => ⟨S8192x1, .f32⟩
  | .local _ .vmem, ⟨2, _⟩ => ⟨S1024x512, .f32⟩
  | .local _ .vmem, ⟨3, _⟩ => ⟨S1024x512, .f32⟩
  | .local _ .vmem, ⟨4, _⟩ => ⟨S512x2048, .f32⟩
  | .local _ .vmem, ⟨5, _⟩ => ⟨S512x2048, .f32⟩
  | .local _ .vmem, ⟨6, _⟩ => ⟨S1024x1, .f32⟩
  | .local _ .vmem, ⟨7, _⟩ => ⟨S1024x1, .f32⟩
  | .local _ .vmem, ⟨8, _⟩ => ⟨S1x2048, .f32⟩
  | .local _ .vmem, ⟨9, _⟩ => ⟨S1x2048, .f32⟩
  | .local _ .vmem, ⟨10, _⟩ => ⟨S1024x16, .i32⟩
  | .local _ .vmem, ⟨11, _⟩ => ⟨S1024x16, .i32⟩
  | .local _ .vmem, ⟨12, _⟩ => ⟨S1024x2048, .f32⟩
  | .local _ .vmem, ⟨13, _⟩ => ⟨S1024x512, .f32⟩
  | .local _ .vmem, ⟨14, _⟩ => ⟨S1024x512, .i32⟩
  | .local _ .vmem, ⟨15, _⟩ => ⟨S1024x128, .i32⟩
  | .local _ .vmem, ⟨16, _⟩ => ⟨S1024x128, .f32⟩
  | .local _ .vmem, ⟨17, _⟩ => ⟨S1024x128, .i32⟩
  | .local _ .vmem, ⟨18, _⟩ => ⟨S1024x128, .f32⟩
  | .local _ .vmem, ⟨19, _⟩ => ⟨S1024x128, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc1_scratch4 : Ref sig .tc := ⟨.vmem, 16, rfl⟩
abbrev cc1_scratch5 : Ref sig .tc := ⟨.vmem, 17, rfl⟩
abbrev cc1_scratch6 : Ref sig .tc := ⟨.vmem, 18, rfl⟩
abbrev cc1_scratch7 : Ref sig .tc := ⟨.vmem, 19, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := .none

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![8, 4], ![false, false]⟩

@[reducible] def k1_t1_loop : Scf.Loop 32 :=
  let c0_i32_11 : BitVec 32 := 0#32
  let c16_i32 : BitVec 32 := 16#32
  let v22 : BitVec 32 := Scalar.addi c0_i32_11 c16_i32
  let c1_i32 : BitVec 32 := 1#32
  ⟨c0_i32_11, v22, c1_i32⟩
def k1_off1 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v54 : Index := Scalar.indexCast v53
  let c15 : Index := 15#32
  ![v54.toNat, 15]
def k1_off2 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v57 : Index := Scalar.indexCast v53
  let c0_33 : Index := 0#32
  ![v57.toNat, 0]
def k1_off3 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v67 : Index := Scalar.indexCast v53
  let c128 : Index := 128#32
  ![v67.toNat, 128]
def k1_off4 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v77 : Index := Scalar.indexCast v53
  let c256 : Index := 256#32
  ![v77.toNat, 256]
def k1_off5 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v87 : Index := Scalar.indexCast v53
  let c384 : Index := 384#32
  ![v87.toNat, 384]
def k1_off6 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v97 : Index := Scalar.indexCast v53
  let c512 : Index := 512#32
  ![v97.toNat, 512]
def k1_off7 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v107 : Index := Scalar.indexCast v53
  let c640 : Index := 640#32
  ![v107.toNat, 640]
def k1_off8 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v117 : Index := Scalar.indexCast v53
  let c768 : Index := 768#32
  ![v117.toNat, 768]
def k1_off9 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v127 : Index := Scalar.indexCast v53
  let c896 : Index := 896#32
  ![v127.toNat, 896]
def k1_off10 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v137 : Index := Scalar.indexCast v53
  let c1024 : Index := 1024#32
  ![v137.toNat, 1024]
def k1_off11 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v147 : Index := Scalar.indexCast v53
  let c1152 : Index := 1152#32
  ![v147.toNat, 1152]
def k1_off12 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v157 : Index := Scalar.indexCast v53
  let c1280 : Index := 1280#32
  ![v157.toNat, 1280]
def k1_off13 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v167 : Index := Scalar.indexCast v53
  let c1408 : Index := 1408#32
  ![v167.toNat, 1408]
def k1_off14 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v177 : Index := Scalar.indexCast v53
  let c1536 : Index := 1536#32
  ![v177.toNat, 1536]
def k1_off15 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v187 : Index := Scalar.indexCast v53
  let c1664 : Index := 1664#32
  ![v187.toNat, 1664]
def k1_off16 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v197 : Index := Scalar.indexCast v53
  let c1792 : Index := 1792#32
  ![v197.toNat, 1792]
def k1_off17 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v207 : Index := Scalar.indexCast v53
  let c1920 : Index := 1920#32
  ![v207.toNat, 1920]
def k1_off18 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v381 : Index := Scalar.indexCast v53
  let c0_51 : Index := 0#32
  ![v381.toNat, 0]
def k1_off19 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v385 : Index := Scalar.indexCast v53
  let c128_52 : Index := 128#32
  ![v385.toNat, 128]
def k1_off20 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v389 : Index := Scalar.indexCast v53
  let c256_53 : Index := 256#32
  ![v389.toNat, 256]
def k1_off21 (k1_t1 : Fin k1_t1_loop.trips) : Fin 2 → Nat :=
  let c0_i32_11 : BitVec 32 := 0#32
  let c1_i32 : BitVec 32 := 1#32
  let arg15 : BitVec 32 := Scf.iv c0_i32_11 c1_i32 k1_t1
  let c64_i32 : BitVec 32 := 64#32
  let v53 : BitVec 32 := Scalar.muli arg15 c64_i32
  let v405 : Index := Scalar.indexCast v53
  let c0_57 : Index := 0#32
  ![v405.toNat, 0]
@[reducible] def k1_t2_loop : Scf.Loop 32 :=
  let c0_i32_40 : BitVec 32 := 0#32
  let c16_i32_41 : BitVec 32 := 16#32
  let v61 : BitVec 32 := Scalar.addi c0_i32_40 c16_i32_41
  let c1_i32_42 : BitVec 32 := 1#32
  ⟨c0_i32_40, v61, c1_i32_42⟩
@[reducible] def k1_t3_loop : Scf.Loop 32 :=
  let c0_i32_33 : BitVec 32 := 0#32
  let c16_i32_34 : BitVec 32 := 16#32
  let v53 : BitVec 32 := Scalar.addi c0_i32_33 c16_i32_34
  let c1_i32_35 : BitVec 32 := 1#32
  ⟨c0_i32_33, v53, c1_i32_35⟩
def k1_cond4 (i : grid1.Coords) : BitVec 1 :=
  let arg1 : BitVec 32 := BitVec.ofNat 32 (i 1).val
  let c3_i32_31 : BitVec 32 := 3#32
  let v50 : BitVec 1 := Scalar.cmpi .eq arg1 c3_i32_31
  let v51 : BitVec 32 := Scalar.extui v50
  let c0_i32_32 : BitVec 32 := 0#32
  let v52 : BitVec 1 := Scalar.cmpi .ne v51 c0_i32_32
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x16 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S8192x16 : Shape := ⟨2, ![8192, 16]⟩
abbrev S131072 : Shape := ⟨1, ![131072]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S512x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x16, .f32⟩
  | .hbm, ⟨17, _⟩ => ⟨S8192x16, .i32⟩
  | .hbm, ⟨18, _⟩ => ⟨S131072, .i32⟩
  | .hbm, ⟨19, _⟩ => ⟨S8192, .i32⟩
  | .hbm, ⟨20, _⟩ => ⟨S8192x16, .i32⟩
  | .hbm, ⟨21, _⟩ => ⟨S131072, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_values : Ref sig .tc := ⟨.hbm, 16, rfl⟩
abbrev main_indices : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Trips.lean ====
/- One trip of each of the two selection loops of the second kernel, on buffers held by their values. -/
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pipeline.Kit

@[expose] public section

set_option maxRecDepth 8192
set_option maxHeartbeats 4000000

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- A memref held by its own elements at the values `X`. -/
abbrev Held (c : Dev nD) {s : Shape} {e : EltTy} (m : Memref sig .tc .vmem s e) (X : s.Idx → Elt F e) : sProp 𝕄G :=
  m.view.loc (c : Thread nD τ) ↦[m.view.set]{fullShare} m.view.rep X

/-- Contents that read `X` hold the values `X`. -/
theorem held_of (c : Dev nD) {s : Shape} {e : EltTy} (m : Memref sig .tc .vmem s e) (g : Buf (Elt F) (m.view.loc (c : Thread nD τ)))
    (X : s.Idx → Elt F e) :
    (m.view.loc (c : Thread nD τ) ↦[m.view.set]{fullShare} g : sProp 𝕄G) ⊢ iprop(⌜m.view.read (Elt F) g = X⌝ -∗ Held (F := F) c m X) := by
  iintro H %h
  subst h
  iapply (pointsTo_rep_entails (c : Thread nD τ) m g fullShare)
  iexact H

/-- A load of a whole distance buffer. -/
theorem ld2048 (m : Memref sig .tc .vmem S1024x2048 .f32) (X : Vec F S1024x2048 .f32) (h : ∀ a, (![0, 0] : Fin 2 → ℕ) a + (![1024, 2048] : Fin 2 → ℕ) a ≤ S1024x2048.size a) :
    View.readAt (Elt F) m.view (Rect.unit (s := S1024x2048) ![0, 0] ![1024, 2048] h).toLoadRect (m.view.rep X) = X :=
  View.readAt_rep_full _ _ h

/-- A load of a whole candidate buffer. -/
theorem ld512 {e : EltTy} (m : Memref sig .tc .vmem S1024x512 e) (X : Vec F S1024x512 e) (h : ∀ a, (![0, 0] : Fin 2 → ℕ) a + (![1024, 512] : Fin 2 → ℕ) a ≤ S1024x512.size a) :
    View.readAt (Elt F) m.view (Rect.unit (s := S1024x512) ![0, 0] ![1024, 512] h).toLoadRect (m.view.rep X) = X :=
  View.readAt_rep_full _ _ h

/-- A load of a whole list buffer. -/
theorem ld128 {e : EltTy} (m : Memref sig .tc .vmem S1024x128 e) (X : Vec F S1024x128 e) (h : ∀ a, (![0, 0] : Fin 2 → ℕ) a + (![1024, 128] : Fin 2 → ℕ) a ≤ S1024x128.size a) :
    View.readAt (Elt F) m.view (Rect.unit (s := S1024x128) ![0, 0] ![1024, 128] h).toLoadRect (m.view.rep X) = X :=
  View.readAt_rep_full _ _ h

variable (𝒱 : Variants) (c : Dev nD) (bd : Option 𝒱.V) (E : Set ℕ) (i : grid1.Coords)
  (arg2 : Memref sig .tc .vmem S1024x512 .f32) (harg2 : arg2.IsWhole) (arg3 : Memref sig .tc .vmem S512x2048 .f32) (harg3 : arg3.IsWhole)
  (arg4 : Memref sig .tc .vmem S1024x1 .f32) (harg4 : arg4.IsWhole) (arg5 : Memref sig .tc .vmem S1x2048 .f32) (harg5 : arg5.IsWhole)
  (arg6 : Memref sig .tc .vmem S1024x16 .i32) (harg6 : arg6.IsWhole) (arg7 : Memref sig .tc .vmem S1024x2048 .f32) (harg7 : arg7.IsWhole)
  (arg8 : Memref sig .tc .vmem S1024x512 .f32) (harg8 : arg8.IsWhole) (arg9 : Memref sig .tc .vmem S1024x512 .i32) (harg9 : arg9.IsWhole)
  (arg10 : Memref sig .tc .vmem S1024x128 .i32) (harg10 : arg10.IsWhole) (arg11 : Memref sig .tc .vmem S1024x128 .f32) (harg11 : arg11.IsWhole)
  (arg12 : Memref sig .tc .vmem S1024x128 .i32) (harg12 : arg12.IsWhole) (arg13 : Memref sig .tc .vmem S1024x128 .f32) (harg13 : arg13.IsWhole)
  (arg14 : Memref sig .tc .vmem S1024x128 .i32) (harg14 : arg14.IsWhole)

/-- One trip of the fast selection. -/
theorem trip2 (v21 : IVec S1024x128 32) (k : Fin k1_t2_loop.trips) (U : Vec F S1024x512 .f32) (UI : Vec F S1024x512 .i32)
    (NV : Vec F S1024x128 .f32) (NI : Vec F S1024x128 .i32) :
    iprop(Held (F := F) c arg9 UI ∗ Held c arg8 U ∗ Held c arg13 NV ∗ Held c arg14 NI : sProp 𝕄G)
      ⊢ wp Idealize.ShloMosaic.frame (wpE (defs₀ (F := F)) 𝒱 (c : Thread nD τ) bd) E
          (k1_t2_body (F := F) i arg2 harg2 arg3 harg3 arg4 harg4 arg5 harg5 arg6 harg6 arg7 harg7 arg8 harg8 arg9 harg9 arg10 harg10 arg11 harg11 arg12 harg12 arg13 harg13 arg14 harg14 v21 k PUnit.unit)
          (fun _ => iprop(Held c arg9 UI ∗ Held c arg8 (k1_pay5 U UI) ∗ Held c arg13 (k1_pay6 v21 k U NV) ∗ Held c arg14 (k1_pay7 v21 k U UI NI))) := by
  have hk : k.val < 16 := Nat.lt_of_lt_of_le k.isLt k1_t2_abs.2.1
  unfold k1_t2_body
  iintro ⟨H9, H8, H13, H14⟩
  sl_exec
  sl_step
  isplitl [H9]
  · iexact H9
  isplitl [H8]
  · iapply (held_of c arg8 _ _) $$ H8
    ipureintro
    refine (View.read_writes_full _ _ _ _ _).trans ?_
    simp only [ld512, ld128]
  isplitl [H13]
  · iapply (held_of c arg13 _ _) $$ H13
    ipureintro
    refine (View.read_writes_full _ _ _ _ _).trans ?_
    simp only [ld512, ld128]
  · iapply (held_of c arg14 _ _) $$ H14
    ipureintro
    refine (View.read_writes_full _ _ _ _ _).trans ?_
    simp only [ld512, ld128]

/-- The induction variable of the exact selection's loop. -/
abbrev iv3 (k : Fin k1_t3_loop.trips) : BitVec 32 := Scf.iv 0#32 1#32 k

/-- One trip of the exact selection. -/
theorem trip3 (v20 : BitVec 32) (v21 : IVec S1024x128 32) (k : Fin k1_t3_loop.trips) (D : Vec F S1024x2048 .f32)
    (BV : Vec F S1024x128 .f32) (BI : Vec F S1024x128 .i32) (NV : Vec F S1024x128 .f32) (NI : Vec F S1024x128 .i32) :
    iprop(Held (F := F) c arg12 BI ∗ Held c arg7 D ∗ Held c arg11 BV ∗ Held c arg13 NV ∗ Held c arg14 NI : sProp 𝕄G)
      ⊢ wp Idealize.ShloMosaic.frame (wpE (defs₀ (F := F)) 𝒱 (c : Thread nD τ) bd) E
          (k1_t3_body (F := F) i arg2 harg2 arg3 harg3 arg4 harg4 arg5 harg5 arg6 harg6 arg7 harg7 arg8 harg8 arg9 harg9 arg10 harg10 arg11 harg11 arg12 harg12 arg13 harg13 arg14 harg14 v20 v21 k PUnit.unit)
          (fun _ => iprop(Held c arg12 BI ∗ Held c arg7 (k1_pay228 v20 D BV BI) ∗ Held c arg11 (k1_pay229 v20 D BV BI)
            ∗ Held c arg13 (k1_pay8 v21 (iv3 k) (k1_pay226 D BV) NV) ∗ Held c arg14 (k1_pay9 v21 (iv3 k) (k1_pay227 v20 D BV BI) NI))) := by
  have hk : k.val < 16 := Nat.lt_of_lt_of_le k.isLt k1_t3_abs.2.1
  unfold k1_t3_body
  iintro ⟨H12, H7, H11, H13, H14⟩
  sl_exec
  sl_step
  isplitl [H12]
  · iexact H12
  isplitl [H7]
  · iapply (held_of c arg7 _ _) $$ H7
    ipureintro
    refine (View.read_writes_full _ _ _ _ _).trans ?_
    sl_unfold_words
    simp only [ld2048, ld128]
  isplitl [H11]
  · iapply (held_of c arg11 _ _) $$ H11
    ipureintro
    refine (View.read_writes_full _ _ _ _ _).trans ?_
    sl_unfold_words
    simp only [ld2048, ld128]
  isplitl [H13]
  · iapply (held_of c arg13 _ _) $$ H13
    ipureintro
    refine (View.read_writes_full _ _ _ _ _).trans ?_
    sl_unfold_words
    simp only [ld2048, ld128]
  · iapply (held_of c arg14 _ _) $$ H14
    ipureintro
    refine (View.read_writes_full _ _ _ _ _).trans ?_
    sl_unfold_words
    simp only [ld2048, ld128]

/-- What the fast selection carries: the candidates' values, the selected values and the selected indices. -/
structure Sel2 (F : FTy → Type) where
  u : FVec F S1024x512 .f32
  nv : FVec F S1024x128 .f32
  ni : IVec S1024x128 32

/-- The fast selection's state before trip `k`. -/
def sel2 (v21 : IVec S1024x128 32) (UI : IVec S1024x512 32) (s : Sel2 F) : ℕ → Sel2 F
  | 0 => s
  | k + 1 =>
    let p := sel2 v21 UI s k
    if h : k < k1_t2_loop.trips then
      ⟨k1_pay5 (F := F) p.u UI, k1_pay6 (F := F) v21 ⟨k, h⟩ p.u p.nv, k1_pay7 (F := F) v21 ⟨k, h⟩ p.u UI p.ni⟩
    else p

/-- What the exact selection carries: the block's distances, the kept values, the selected values and the selected indices. -/
structure Sel3 (F : FTy → Type) where
  d : FVec F S1024x2048 .f32
  bv : FVec F S1024x128 .f32
  nv : FVec F S1024x128 .f32
  ni : IVec S1024x128 32

/-- The exact selection's state before trip `k`. -/
def sel3 (v20 : BitVec 32) (v21 : IVec S1024x128 32) (BI : IVec S1024x128 32) (s : Sel3 F) : ℕ → Sel3 F
  | 0 => s
  | k + 1 =>
    let p := sel3 v20 v21 BI s k
    if h : k < k1_t3_loop.trips then
      ⟨k1_pay228 (F := F) v20 p.d p.bv BI, k1_pay229 (F := F) v20 p.d p.bv BI, k1_pay8 (F := F) v21 (iv3 ⟨k, h⟩) (k1_pay226 (F := F) p.d p.bv) p.nv,
        k1_pay9 (F := F) v21 (iv3 ⟨k, h⟩) (k1_pay227 (F := F) v20 p.d p.bv BI) p.ni⟩
    else p

/-- The fast selection by its invariant: before trip `k` the buffers hold `sel2 k` of what they held at the start. -/
@[sl_loop, reducible] def inv2 (v21 : IVec S1024x128 32) (UI : IVec S1024x512 32) (U : FVec F S1024x512 .f32) (NV : FVec F S1024x128 .f32) (NI : IVec S1024x128 32) :
    LoopInv (M := 𝕄G) Idealize.ShloMosaic.frame (wpE (defs₀ (F := F)) 𝒱 (c : Thread nD τ) bd) E k1_t2_loop.lb k1_t2_loop.ub k1_t2_loop.st k1_t2_ok ()
      (k1_t2_body (F := F) i arg2 harg2 arg3 harg3 arg4 harg4 arg5 harg5 arg6 harg6 arg7 harg7 arg8 harg8 arg9 harg9 arg10 harg10 arg11 harg11 arg12 harg12 arg13 harg13 arg14 harg14 v21) where
  inv := fun k _ => iprop(Held (F := F) c arg9 UI ∗ Held c arg8 (sel2 v21 UI ⟨U, NV, NI⟩ k).u ∗ Held c arg13 (sel2 v21 UI ⟨U, NV, NI⟩ k).nv ∗ Held c arg14 (sel2 v21 UI ⟨U, NV, NI⟩ k).ni)
  step := by
    intro k acc
    iintro H
    iapply (wp_wand_r Idealize.ShloMosaic.frame (wpE (defs₀ (F := F)) 𝒱 (c : Thread nD τ) bd) E)
    isplitl [H]
    · iapply (trip2 (F := F) 𝒱 c bd E i arg2 harg2 arg3 harg3 arg4 harg4 arg5 harg5 arg6 harg6 arg7 harg7 arg8 harg8 arg9 harg9 arg10 harg10 arg11 harg11 arg12 harg12 arg13 harg13 arg14 harg14 v21 k)
      iexact H
    · iintro %u H
      have e : sel2 v21 UI ⟨U, NV, NI⟩ (k.val + 1) = ⟨k1_pay5 (F := F) (sel2 v21 UI ⟨U, NV, NI⟩ k.val).u UI, k1_pay6 (F := F) v21 k (sel2 v21 UI ⟨U, NV, NI⟩ k.val).u (sel2 v21 UI ⟨U, NV, NI⟩ k.val).nv,
          k1_pay7 (F := F) v21 k (sel2 v21 UI ⟨U, NV, NI⟩ k.val).u UI (sel2 v21 UI ⟨U, NV, NI⟩ k.val).ni⟩ := by
        rw [sel2]; exact dif_pos k.isLt
      rw [e]
      iexact H

/-- The exact selection by its invariant: before trip `k` the buffers hold `sel3 k` of what they held at the start. -/
@[sl_loop, reducible] def inv3 (v20 : BitVec 32) (v21 : IVec S1024x128 32) (BI : IVec S1024x128 32) (D : FVec F S1024x2048 .f32) (BV NV : FVec F S1024x128 .f32) (NI : IVec S1024x128 32) :
    LoopInv (M := 𝕄G) Idealize.ShloMosaic.frame (wpE (defs₀ (F := F)) 𝒱 (c : Thread nD τ) bd) E k1_t3_loop.lb k1_t3_loop.ub k1_t3_loop.st k1_t3_ok ()
      (k1_t3_body (F := F) i arg2 harg2 arg3 harg3 arg4 harg4 arg5 harg5 arg6 harg6 arg7 harg7 arg8 harg8 arg9 harg9 arg10 harg10 arg11 harg11 arg12 harg12 arg13 harg13 arg14 harg14 v20 v21) where
  inv := fun k _ => iprop(Held (F := F) c arg12 BI ∗ Held c arg7 (sel3 v20 v21 BI ⟨D, BV, NV, NI⟩ k).d ∗ Held c arg11 (sel3 v20 v21 BI ⟨D, BV, NV, NI⟩ k).bv
    ∗ Held c arg13 (sel3 v20 v21 BI ⟨D, BV, NV, NI⟩ k).nv ∗ Held c arg14 (sel3 v20 v21 BI ⟨D, BV, NV, NI⟩ k).ni)
  step := by
    intro k acc
    iintro H
    iapply (wp_wand_r Idealize.ShloMosaic.frame (wpE (defs₀ (F := F)) 𝒱 (c : Thread nD τ) bd) E)
    isplitl [H]
    · iapply (trip3 (F := F) 𝒱 c bd E i arg2 harg2 arg3 harg3 arg4 harg4 arg5 harg5 arg6 harg6 arg7 harg7 arg8 harg8 arg9 harg9 arg10 harg10 arg11 harg11 arg12 harg12 arg13 harg13 arg14 harg14 v20 v21 k)
      iexact H
    · iintro %u H
      have e : sel3 v20 v21 BI ⟨D, BV, NV, NI⟩ (k.val + 1) = ⟨k1_pay228 (F := F) v20 (sel3 v20 v21 BI ⟨D, BV, NV, NI⟩ k.val).d (sel3 v20 v21 BI ⟨D, BV, NV, NI⟩ k.val).bv BI,
          k1_pay229 (F := F) v20 (sel3 v20 v21 BI ⟨D, BV, NV, NI⟩ k.val).d (sel3 v20 v21 BI ⟨D, BV, NV, NI⟩ k.val).bv BI,
          k1_pay8 (F := F) v21 (iv3 k) (k1_pay226 (F := F) (sel3 v20 v21 BI ⟨D, BV, NV, NI⟩ k.val).d (sel3 v20 v21 BI ⟨D, BV, NV, NI⟩ k.val).bv) (sel3 v20 v21 BI ⟨D, BV, NV, NI⟩ k.val).nv,
          k1_pay9 (F := F) v21 (iv3 k) (k1_pay227 (F := F) v20 (sel3 v20 v21 BI ⟨D, BV, NV, NI⟩ k.val).d (sel3 v20 v21 BI ⟨D, BV, NV, NI⟩ k.val).bv BI) (sel3 v20 v21 BI ⟨D, BV, NV, NI⟩ k.val).ni⟩ := by
        rw [sel3]; exact dif_pos k.isLt
      rw [e]
      iexact H

end Cert.KernelIdeal.Knn

end
-- ==== Proof.Net.lean ====
/- The strip filter of the second kernel: what one trip leaves in the candidate buffers, as a network of
   compare-and-select steps on vectors. -/
module

public import proofs.«01_k».proof.Proof.Trips
public import Idealize.ShloMosaic.Lib.Pipeline.Value

@[expose] public section

set_option maxRecDepth 16384
set_option maxHeartbeats 4000000

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- A vector of candidates: values and indices. -/
structure Slot (F : FTy → Type) where
  v : FVec F S64x128 .f32
  i : IVec S64x128 32

/-- The lesser of two candidates by value, the first on a tie. -/
def Slot.lo (a b : Slot F) : Slot F := ⟨select (cmpf .ole a.v b.v) a.v b.v, select (cmpf .ole a.v b.v) a.i b.i⟩
/-- The other one. -/
def Slot.hi (a b : Slot F) : Slot F := ⟨select (cmpf .ole a.v b.v) b.v a.v, select (cmpf .ole a.v b.v) b.i a.i⟩

/-- Three candidates. -/
structure Three (F : FTy → Type) where
  a : Slot F
  b : Slot F
  c : Slot F

/-- Two pairs of sorted pairs merged into their three least. -/
def merge22 (p q r s : Slot F) : Three F :=
  let x := (p.lo q).lo (r.lo s)
  let h := (p.lo q).hi (r.lo s)
  let m := (p.hi q).lo (r.hi s)
  ⟨x, h.lo m, h.hi m⟩

/-- Two sorted triples merged into their three least. -/
def merge33 (p q : Three F) : Three F :=
  let h := p.a.hi q.a
  let m := p.b.lo q.b
  ⟨p.a.lo q.a, h.lo m, (h.hi m).lo (p.c.lo q.c)⟩

/-- The sixteen chunks' three least by lane. -/
def net (s : Fin 16 → Slot F) : Three F :=
  merge33 (merge33 (merge22 (s 0) (s 8) (s 4) (s 12)) (merge22 (s 2) (s 10) (s 6) (s 14)))
    (merge33 (merge22 (s 1) (s 9) (s 5) (s 13)) (merge22 (s 3) (s 11) (s 7) (s 15)))

/-- Which entries of a chunk lie below the row's threshold. -/
def keep (tv : Vec F S64x1 .f32) (ch : Vec F S64x128 .f32) : IVec S64x128 1 := cmpf .olt ch (broadcastTo S64x128 tv broadcasts_S64x1_S64x128)

/-- A chunk's candidates: the kept values, the others at infinity, and the column numbers. -/
def slot (v20 : BitVec 32) (tv : Vec F S64x1 .f32) (ch : Fin 16 → Vec F S64x128 .f32) (j : Fin 16) : Slot F :=
  ⟨select (keep tv (ch j)) (ch j) (broadcast S64x128 (Scalar.ofBits .f32 0x7F800000#32)),
    addi (iota .tc S64x128 32 [1] iota_S64x128_d1_w32) (broadcast S64x128 (Scalar.addi v20 (BitVec.ofNat 32 (128 * j.val))))⟩

/-- How many of the sixteen chunks keep their entry, by lane. -/
def count (tv : Vec F S64x1 .f32) (ch : Fin 16 → Vec F S64x128 .f32) : IVec S64x128 32 :=
  let n := fun j => extui 32 (keep tv (ch j)) natLt_1_32
  addi (addi (addi (addi (n 0) (n 8)) (addi (n 4) (n 12))) (addi (addi (n 2) (n 10)) (addi (n 6) (n 14))))
    (addi (addi (addi (n 1) (n 9)) (addi (n 5) (n 13))) (addi (addi (n 3) (n 11)) (addi (n 7) (n 15))))

theorem inbD (k : Fin 16) (j : Fin 16) : ∀ a, (![64 * k.val, 128 * j.val] : Fin 2 → ℕ) a + (![64, 128] : Fin 2 → ℕ) a ≤ S1024x2048.size a := by
  have := k.isLt; have := j.isLt
  intro a; fin_cases a
  · show 64 * k.val + 64 ≤ 1024; omega
  · show 128 * j.val + 128 ≤ 2048; omega

theorem inbT (k : Fin 16) : ∀ a, (![64 * k.val, 15] : Fin 2 → ℕ) a + (![64, 1] : Fin 2 → ℕ) a ≤ S1024x128.size a := by
  have := k.isLt
  intro a; fin_cases a
  · show 64 * k.val + 64 ≤ 1024; omega
  · show 15 + 1 ≤ 128; omega

/-- Chunk `j` of strip `k` of the distances. -/
def chunk (D : Vec F S1024x2048 .f32) (k j : Fin 16) : Vec F S64x128 .f32 :=
  VecWindow.window D ![64 * k.val, 128 * j.val] ![64, 128] (inbD k j)

/-- The thresholds of strip `k`: the sixteenth kept value of each row. -/
def thr (BV : Vec F S1024x128 .f32) (k : Fin 16) : Vec F S64x1 .f32 :=
  VecWindow.window BV ![64 * k.val, 15] ![64, 1] (inbT k)

/-- Strip `k`'s three least by lane. -/
def strip (v20 : BitVec 32) (D : Vec F S1024x2048 .f32) (BV : Vec F S1024x128 .f32) (k : Fin 16) : Three F :=
  net (slot v20 (thr BV k) (chunk D k))

/-- A load of a chunk. -/
theorem ldD (m : Memref sig .tc .vmem S1024x2048 .f32) (D : Vec F S1024x2048 .f32) (k j : Fin 16) {off : Fin 2 → ℕ}
    (h : off = ![64 * k.val, 128 * j.val]) (inb : ∀ a, off a + (![64, 128] : Fin 2 → ℕ) a ≤ S1024x2048.size a) :
    View.readAt (Elt F) m.view (Rect.unit (s := S1024x2048) off ![64, 128] inb).toLoadRect (m.view.rep D) = chunk D k j :=
  View.readAt_rep_unit _ _ inb h _

/-- A load of the thresholds. -/
theorem ldT (m : Memref sig .tc .vmem S1024x128 .f32) (BV : Vec F S1024x128 .f32) (k : Fin 16) {off : Fin 2 → ℕ}
    (h : off = ![64 * k.val, 15]) (inb : ∀ a, off a + (![64, 1] : Fin 2 → ℕ) a ≤ S1024x128.size a) :
    View.readAt (Elt F) m.view (Rect.unit (s := S1024x128) off ![64, 1] inb).toLoadRect (m.view.rep BV) = thr BV k :=
  View.readAt_rep_unit _ _ inb h _

variable (𝒱 : Variants) (c : Dev nD) (bd : Option 𝒱.V) (E : Set ℕ) (i : grid1.Coords)
  (arg2 : Memref sig .tc .vmem S1024x512 .f32) (harg2 : arg2.IsWhole) (arg3 : Memref sig .tc .vmem S512x2048 .f32) (harg3 : arg3.IsWhole)
  (arg4 : Memref sig .tc .vmem S1024x1 .f32) (harg4 : arg4.IsWhole) (arg5 : Memref sig .tc .vmem S1x2048 .f32) (harg5 : arg5.IsWhole)
  (arg6 : Memref sig .tc .vmem S1024x16 .i32) (harg6 : arg6.IsWhole) (arg7 : Memref sig .tc .vmem S1024x2048 .f32) (harg7 : arg7.IsWhole)
  (arg8 : Memref sig .tc .vmem S1024x512 .f32) (harg8 : arg8.IsWhole) (arg9 : Memref sig .tc .vmem S1024x512 .i32) (harg9 : arg9.IsWhole)
  (arg10 : Memref sig .tc .vmem S1024x128 .i32) (harg10 : arg10.IsWhole) (arg11 : Memref sig .tc .vmem S1024x128 .f32) (harg11 : arg11.IsWhole)
  (arg12 : Memref sig .tc .vmem S1024x128 .i32) (harg12 : arg12.IsWhole) (arg13 : Memref sig .tc .vmem S1024x128 .f32) (harg13 : arg13.IsWhole)
  (arg14 : Memref sig .tc .vmem S1024x128 .i32) (harg14 : arg14.IsWhole)

/-- One trip of the strip filter. -/
theorem trip1 (v20 : BitVec 32) (k : Fin k1_t1_loop.trips) (kk : Fin 16) (hkk : kk.val = k.val) (D : Vec F S1024x2048 .f32) (BV : Vec F S1024x128 .f32)
    (U : Vec F S1024x512 .f32) (UI : Vec F S1024x512 .i32) (C : Vec F S1024x128 .i32) :
    iprop(Held (F := F) c arg7 D ∗ Held c arg11 BV ∗ Held c arg8 U ∗ Held c arg9 UI ∗ Held c arg10 C : sProp 𝕄G)
      ⊢ wp Idealize.ShloMosaic.frame (wpE (defs₀ (F := F)) 𝒱 (c : Thread nD τ) bd) E
          (k1_t1_body (F := F) i arg2 harg2 arg3 harg3 arg4 harg4 arg5 harg5 arg6 harg6 arg7 harg7 arg8 harg8 arg9 harg9 arg10 harg10 arg11 harg11 arg12 harg12 arg13 harg13 arg14 harg14 v20 k PUnit.unit)
          (fun _ => iprop(Held c arg7 D ∗ Held c arg11 BV
            ∗ Held c arg8 (VecWindow.put (VecWindow.put (VecWindow.put U ![64 * k.val, 0] ![64, 128] (strip v20 D BV kk).a.v) ![64 * k.val, 128] ![64, 128] (strip v20 D BV kk).b.v)
                ![64 * k.val, 256] ![64, 128] (strip v20 D BV kk).c.v)
            ∗ Held c arg9 (VecWindow.put (VecWindow.put (VecWindow.put UI ![64 * k.val, 0] ![64, 128] (strip v20 D BV kk).a.i) ![64 * k.val, 128] ![64, 128] (strip v20 D BV kk).b.i)
                ![64 * k.val, 256] ![64, 128] (strip v20 D BV kk).c.i)
            ∗ Held c arg10 (VecWindow.put C ![64 * k.val, 0] ![64, 128] (count (thr BV kk) (chunk D kk))))) := by
  have hk : k.val < 16 := Nat.lt_of_lt_of_le k.isLt k1_t1_abs.2.1
  have l2 := fun inb => ldD (F := F) arg7 D kk 0 (off := k1_off2 k) (by rw [k1_off2_eq, hkk]; rfl) inb
  have l3 := fun inb => ldD (F := F) arg7 D kk 1 (off := k1_off3 k) (by rw [k1_off3_eq, hkk]; rfl) inb
  have l4 := fun inb => ldD (F := F) arg7 D kk 2 (off := k1_off4 k) (by rw [k1_off4_eq, hkk]; rfl) inb
  have l5 := fun inb => ldD (F := F) arg7 D kk 3 (off := k1_off5 k) (by rw [k1_off5_eq, hkk]; rfl) inb
  have l6 := fun inb => ldD (F := F) arg7 D kk 4 (off := k1_off6 k) (by rw [k1_off6_eq, hkk]; rfl) inb
  have l7 := fun inb => ldD (F := F) arg7 D kk 5 (off := k1_off7 k) (by rw [k1_off7_eq, hkk]; rfl) inb
  have l8 := fun inb => ldD (F := F) arg7 D kk 6 (off := k1_off8 k) (by rw [k1_off8_eq, hkk]; rfl) inb
  have l9 := fun inb => ldD (F := F) arg7 D kk 7 (off := k1_off9 k) (by rw [k1_off9_eq, hkk]; rfl) inb
  have l10 := fun inb => ldD (F := F) arg7 D kk 8 (off := k1_off10 k) (by rw [k1_off10_eq, hkk]; rfl) inb
  have l11 := fun inb => ldD (F := F) arg7 D kk 9 (off := k1_off11 k) (by rw [k1_off11_eq, hkk]; rfl) inb
  have l12 := fun inb => ldD (F := F) arg7 D kk 10 (off := k1_off12 k) (by rw [k1_off12_eq, hkk]; rfl) inb
  have l13 := fun inb => ldD (F := F) arg7 D kk 11 (off := k1_off13 k) (by rw [k1_off13_eq, hkk]; rfl) inb
  have l14 := fun inb => ldD (F := F) arg7 D kk 12 (off := k1_off14 k) (by rw [k1_off14_eq, hkk]; rfl) inb
  have l15 := fun inb => ldD (F := F) arg7 D kk 13 (off := k1_off15 k) (by rw [k1_off15_eq, hkk]; rfl) inb
  have l16 := fun inb => ldD (F := F) arg7 D kk 14 (off := k1_off16 k) (by rw [k1_off16_eq, hkk]; rfl) inb
  have l17 := fun inb => ldD (F := F) arg7 D kk 15 (off := k1_off17 k) (by rw [k1_off17_eq, hkk]; rfl) inb
  have l1 := fun inb => ldT (F := F) arg11 BV kk (off := k1_off1 k) (by rw [k1_off1_eq, hkk]) inb
  unfold k1_t1_body
  iintro ⟨H7, H11, H8, H9, H10⟩
  sl_exec
  sl_step
  isplitl [H7]
  · iexact H7
  isplitl [H11]
  · iexact H11
  isplitl [H8]
  · iapply (held_of c arg8 _ _) $$ H8
    ipureintro
    rw [View.read_writes_cons_put _ _ _ _ _ (k1_off20_eq k), View.read_writes_cons_put _ _ _ _ _ (k1_off19_eq k),
      View.read_writes_rep_unit _ _ _ _ (k1_off18_eq k)]
    refine congrArg₂ (fun x y => VecWindow.put x _ _ y) (congrArg₂ (fun x y => VecWindow.put x _ _ y) (congrArg (fun y => VecWindow.put U _ _ y) ?_) ?_) ?_
    all_goals
      sl_unfold_run_names
      simp only [l1, l2, l3, l4, l5, l6, l7, l8, l9, l10, l11, l12, l13, l14, l15, l16, l17, k1_pay219, k1_pay220, k1_pay221, k1_pay222, k1_pay223, k1_pay224, k1_pay225]
      refine (shapeCast_self _ _).trans ?_
      rfl
  isplitl [H9]
  · iapply (held_of c arg9 _ _) $$ H9
    ipureintro
    rw [View.read_writes_cons_put _ _ _ _ _ (k1_off20_eq k), View.read_writes_cons_put _ _ _ _ _ (k1_off19_eq k),
      View.read_writes_rep_unit _ _ _ _ (k1_off18_eq k)]
    refine congrArg₂ (fun x y => VecWindow.put x _ _ y) (congrArg₂ (fun x y => VecWindow.put x _ _ y) (congrArg (fun y => VecWindow.put UI _ _ y) ?_) ?_) ?_
    all_goals
      sl_unfold_run_names
      simp only [l1, l2, l3, l4, l5, l6, l7, l8, l9, l10, l11, l12, l13, l14, l15, l16, l17, k1_pay219, k1_pay220, k1_pay221, k1_pay222, k1_pay223, k1_pay224, k1_pay225]
      refine (shapeCast_self _ _).trans ?_
      rfl
  · iapply (held_of c arg10 _ _) $$ H10
    ipureintro
    rw [View.read_writes_rep_unit _ _ _ _ (k1_off21_eq k)]
    refine congrArg (fun y => VecWindow.put C _ _ y) ?_
    sl_unfold_run_names
    simp only [l1, l2, l3, l4, l5, l6, l7, l8, l9, l10, l11, l12, l13, l14, l15, l16, l17, k1_pay219, k1_pay220, k1_pay221, k1_pay222, k1_pay223, k1_pay224, k1_pay225]
    refine (shapeCast_self _ _).trans ?_
    rfl

end Cert.KernelIdeal.Knn

end
-- ==== Proof.Fill.lean ====
/- The strip filter's loop by its invariant, and what its sixteen trips leave whatever the candidate buffers held. -/
module

public import proofs.«01_k».proof.Proof.Net
public import Idealize.ShloMosaic.Lib.ValueIdxCore

@[expose] public section

set_option maxRecDepth 16384
set_option maxHeartbeats 4000000

noncomputable section

namespace Cert.KernelIdeal.Knn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

section Pure
variable {α : Type}

/-- Sixteen strips of one column block written over `C`, the first `k` of them. -/
def fill1 (N : Fin 16 → S64x128.Idx → α) (C : S1024x128.Idx → α) : ℕ → S1024x128.Idx → α
  | 0 => C
  | k + 1 => if h : k < 16 then VecWindow.put (fill1 N C k) ![64 * k, 0] ![64, 128] (N ⟨k, h⟩) else fill1 N C k

/-- Sixteen strips of three column blocks written over `U`, the first `k` of them. -/
def fill3 (X Y Z : Fin 16 → S64x128.Idx → α) (U : S1024x512.Idx → α) : ℕ → S1024x512.Idx → α
  | 0 => U
  | k + 1 => if h : k < 16 then
      VecWindow.put (VecWindow.put (VecWindow.put (fill3 X Y Z U k) ![64 * k, 0] ![64, 128] (X ⟨k, h⟩)) ![64 * k, 128] ![64, 128] (Y ⟨k, h⟩))
        ![64 * k, 256] ![64, 128] (Z ⟨k, h⟩)
    else fill3 X Y Z U k

theorem fill1_succ (N : Fin 16 → S64x128.Idx → α) (C : S1024x128.Idx → α) {k : ℕ} (h : k < 16) :
    fill1 N C (k + 1) = VecWindow.put (fill1 N C k) ![64 * k, 0] ![64, 128] (N ⟨k, h⟩) := by
  rw [fill1]; exact dif_pos h

theorem fill3_succ (X Y Z : Fin 16 → S64x128.Idx → α) (U : S1024x512.Idx → α) {k : ℕ} (h : k < 16) :
    fill3 X Y Z U (k + 1) = VecWindow.put (VecWindow.put (VecWindow.put (fill3 X Y Z U k) ![64 * k, 0] ![64, 128] (X ⟨k, h⟩)) ![64 * k, 128] ![64, 128] (Y ⟨k, h⟩))
        ![64 * k, 256] ![64, 128] (Z ⟨k, h⟩) := by
  rw [fill3]; exact dif_pos h

/-- Row `r`'s strip. -/
def stripOf (r : Fin 1024) : Fin 16 := ⟨r.val / 64, by omega⟩
/-- Row `r`'s place in its strip. -/
def rowIn (r : Fin 1024) : Fin 64 := ⟨r.val % 64, by omega⟩

/-- One column block, strip by strip. -/
def lanes1 (N : Fin 16 → S64x128.Idx → α) : S1024x128.Idx → α :=
  fun y => N (stripOf (y 0)) (ix2 (rowIn (y 0)) (y 1))

/-- Three column blocks, strip by strip, and a fourth. -/
def lanes4 (X Y Z : Fin 16 → S64x128.Idx → α) (W : S1024x128.Idx → α) : S1024x512.Idx → α :=
  fun y =>
    if h : (y 1).val < 128 then X (stripOf (y 0)) (ix2 (rowIn (y 0)) ⟨(y 1).val, h⟩)
    else if h2 : (y 1).val < 256 then Y (stripOf (y 0)) (ix2 (rowIn (y 0)) ⟨(y 1).val - 128, by omega⟩)
    else if h3 : (y 1).val < 384 then Z (stripOf (y 0)) (ix2 (rowIn (y 0)) ⟨(y 1).val - 256, by omega⟩)
    else W (ix2 (y 0) ⟨(y 1).val - 384, by have : (y 1).val < 512 := (y 1).isLt; omega⟩)

theorem put_in {m n p q : ℕ} (x : (⟨2, ![m, n]⟩ : Shape).Idx → α) (off : Fin 2 → ℕ) (w : (⟨2, ![p, q]⟩ : Shape).Idx → α) (y : (⟨2, ![m, n]⟩ : Shape).Idx)
    (z : (⟨2, ![p, q]⟩ : Shape).Idx) (h : ∀ a : Fin 2, (y a).val = off a + (z a).val) :
    VecWindow.put (s := ⟨2, ![m, n]⟩) x off ![p, q] w y = w z := by
  have hh : ∀ a : Fin 2, off a ≤ (y a).val ∧ (y a).val < off a + (![p, q] : Fin 2 → ℕ) a :=
    fun a => ⟨by have := h a; omega, by have := h a; have e : (z a).val < (![p, q] : Fin 2 → ℕ) a := (z a).isLt; omega⟩
  unfold VecWindow.put
  rw [dif_pos hh]
  refine congrArg w (funext fun a => Fin.ext ?_)
  rw [Rect.unitLocal_val]
  have := h a; omega

theorem put_out {s : Shape} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  exact dif_neg fun hh => by have := hh a; omega

/-- The sixteen strips leave the column block they spell. -/
theorem fill1_all (N : Fin 16 → S64x128.Idx → α) (C : S1024x128.Idx → α) : fill1 N C 16 = lanes1 N := by
  have key : ∀ k, k ≤ 16 → ∀ y : S1024x128.Idx, (y 0).val < 64 * k → fill1 N C k y = lanes1 N y := by
    intro k
    induction k with
    | zero => intro _ y hy; omega
    | succ k ih =>
      intro hk y hy
      rw [fill1, dif_pos (show k < 16 by omega)]
      by_cases hr : (y 0).val < 64 * k
      · rw [put_out _ _ _ _ y 0 (Or.inl hr)]
        exact ih (by omega) y hr
      · have e : stripOf (y 0) = ⟨k, by omega⟩ := Fin.ext (by show (y 0).val / 64 = k; omega)
        rw [put_in (p := 64) (q := 128) _ _ _ y (ix2 (rowIn (y 0)) (y 1))]
        · show _ = N (stripOf (y 0)) _
          rw [e]
        · intro a; fin_cases a
          · show (y 0).val = 64 * k + (y 0).val % 64; omega
          · show (y 1).val = 0 + (y 1).val; omega
  funext y
  exact key 16 le_rfl y (by have : (y 0).val < 1024 := (y 0).isLt; omega)

/-- The sixteen strips and the fourth column block leave nothing of what was there. -/
theorem fill3_all (X Y Z : Fin 16 → S64x128.Idx → α) (U : S1024x512.Idx → α) (W : S1024x128.Idx → α) :
    VecWindow.put (fill3 X Y Z U 16) ![0, 384] ![1024, 128] W = lanes4 X Y Z W := by
  have key : ∀ k, k ≤ 16 → ∀ y : S1024x512.Idx, (y 0).val < 64 * k → (y 1).val < 384 → fill3 X Y Z U k y = lanes4 X Y Z W y := by
    intro k
    induction k with
    | zero => intro _ y hy; omega
    | succ k ih =>
      intro hk y hy hl
      rw [fill3, dif_pos (show k < 16 by omega)]
      by_cases hr : (y 0).val < 64 * k
      · rw [put_out _ _ _ _ y 0 (Or.inl hr), put_out _ _ _ _ y 0 (Or.inl hr), put_out _ _ _ _ y 0 (Or.inl hr)]
        exact ih (by omega) y hr hl
      · have e : stripOf (y 0) = ⟨k, by omega⟩ := Fin.ext (by show (y 0).val / 64 = k; omega)
        unfold lanes4
        by_cases h1 : (y 1).val < 128
        · rw [dif_pos h1, e, put_out _ _ _ _ y 1 (Or.inl (by show (y 1).val < 256; omega)), put_out _ _ _ _ y 1 (Or.inl (by show (y 1).val < 128; omega))]
          refine put_in (p := 64) (q := 128) _ _ _ y (ix2 (rowIn (y 0)) ⟨(y 1).val, h1⟩) ?_
          intro a; fin_cases a
          · show (y 0).val = 64 * k + (y 0).val % 64; omega
          · show (y 1).val = 0 + (y 1).val; omega
        · rw [dif_neg h1]
          by_cases h2 : (y 1).val < 256
          · rw [dif_pos h2, e, put_out _ _ _ _ y 1 (Or.inl (by show (y 1).val < 256; omega))]
            refine put_in (p := 64) (q := 128) _ _ _ y (ix2 (rowIn (y 0)) ⟨(y 1).val - 128, by omega⟩) ?_
            intro a; fin_cases a
            · show (y 0).val = 64 * k + (y 0).val % 64; omega
            · show (y 1).val = 128 + ((y 1).val - 128); omega
          · rw [dif_neg h2, dif_pos hl, e]
            refine put_in (p := 64) (q := 128) _ _ _ y (ix2 (rowIn (y 0)) ⟨(y 1).val - 256, by omega⟩) ?_
            intro a; fin_cases a
            · show (y 0).val = 64 * k + (y 0).val % 64; omega
            · show (y 1).val = 256 + ((y 1).val - 256); omega
  funext y
  have h0 : (y 0).val < 1024 := (y 0).isLt
  have h1 : (y 1).val < 512 := (y 1).isLt
  by_cases hl : (y 1).val < 384
  · rw [put_out _ _ _ _ y 1 (Or.inl hl)]
    exact key 16 le_rfl y (by omega) hl
  · unfold lanes4
    rw [dif_neg (by omega), dif_neg (by omega), dif_neg hl]
    refine put_in (p := 1024) (q := 128) _ _ _ y (ix2 (y 0) ⟨(y 1).val - 384, by omega⟩) ?_
    intro a; fin_cases a
    · show (y 0).val = 0 + (y 0).val; omega
    · show (y 1).val = 384 + ((y 1).val - 384); omega

end Pure

/-- The candidate values before trip `k`. -/
def filU (v20 : BitVec 32) (D : FVec F S1024x2048 .f32) (BV : FVec F S1024x128 .f32) (U : FVec F S1024x512 .f32) (k : ℕ) : FVec F S1024x512 .f32 :=
  fill3 (fun k => (strip v20 D BV k).a.v) (fun k => (strip v20 D BV k).b.v) (fun k => (strip v20 D BV k).c.v) U k
/-- The candidate indices before trip `k`. -/
def filI (v20 : BitVec 32) (D : FVec F S1024x2048 .f32) (BV : FVec F S1024x128 .f32) (UI : IVec S1024x512 32) (k : ℕ) : IVec S1024x512 32 :=
  fill3 (fun k => (strip v20 D BV k).a.i) (fun k => (strip v20 D BV k).b.i) (fun k => (strip v20 D BV k).c.i) UI k
/-- The counts before trip `k`. -/
def filC (D : FVec F S1024x2048 .f32) (BV : FVec F S1024x128 .f32) (C : IVec S1024x128 32) (k : ℕ) : IVec S1024x128 32 :=
  fill1 (fun k => count (thr BV k) (chunk D k)) C k

/-- The candidate values of the fast selection: each strip's three least by lane, and the kept values. -/
def candU (v20 : BitVec 32) (D : FVec F S1024x2048 .f32) (BV : FVec F S1024x128 .f32) : FVec F S1024x512 .f32 :=
  lanes4 (fun k => (strip v20 D BV k).a.v) (fun k => (strip v20 D BV k).b.v) (fun k => (strip v20 D BV k).c.v) BV
/-- Their indices. -/
def candI (v20 : BitVec 32) (D : FVec F S1024x2048 .f32) (BV : FVec F S1024x128 .f32) (BI : IVec S1024x128 32) : IVec S1024x512 32 :=
  lanes4 (fun k => (strip v20 D BV k).a.i) (fun k => (strip v20 D BV k).b.i) (fun k => (strip v20 D BV k).c.i) BI
/-- How many entries each lane keeps. -/
def counts (D : FVec F S1024x2048 .f32) (BV : FVec F S1024x128 .f32) : IVec S1024x128 32 :=
  lanes1 (fun k => count (thr BV k) (chunk D k))

variable (𝒱 : Variants) (c : Dev nD) (bd : Option 𝒱.V) (E : Set ℕ) (i : grid1.Coords)
  (arg2 : Memref sig .tc .vmem S1024x512 .f32) (harg2 : arg2.IsWhole) (arg3 : Memref sig .tc .vmem S512x2048 .f32) (harg3 : arg3.IsWhole)
  (arg4 : Memref sig .tc .vmem S1024x1 .f32) (harg4 : arg4.IsWhole) (arg5 : Memref sig .tc .vmem S1x2048 .f32) (harg5 : arg5.IsWhole)
  (arg6 : Memref sig .tc .vmem S1024x16 .i32) (harg6 : arg6.IsWhole) (arg7 : Memref sig .tc .vmem S1024x2048 .f32) (harg7 : arg7.IsWhole)
  (arg8 : Memref sig .tc .vmem S1024x512 .f32) (harg8 : arg8.IsWhole) (arg9 : Memref sig .tc .vmem S1024x512 .i32) (harg9 : arg9.IsWhole)
  (arg10 : Memref sig .tc .vmem S1024x128 .i32) (harg10 : arg10.IsWhole) (arg11 : Memref sig .tc .vmem S1024x128 .f32) (harg11 : arg11.IsWhole)
  (arg12 : Memref sig .tc .vmem S1024x128 .i32) (harg12 : arg12.IsWhole) (arg13 : Memref sig .tc .vmem S1024x128 .f32) (harg13 : arg13.IsWhole)
  (arg14 : Memref sig .tc .vmem S1024x128 .i32) (harg14 : arg14.IsWhole)

/-- The strip filter by its invariant. -/
@[sl_loop, reducible] def inv1 (v20 : BitVec 32) (D : FVec F S1024x2048 .f32) (BV : FVec F S1024x128 .f32) (U : FVec F S1024x512 .f32) (UI : IVec S1024x512 32) (C : IVec S1024x128 32) :
    LoopInv (M := 𝕄G) Idealize.ShloMosaic.frame (wpE (defs₀ (F := F)) 𝒱 (c : Thread nD τ) bd) E k1_t1_loop.lb k1_t1_loop.ub k1_t1_loop.st k1_t1_ok ()
      (k1_t1_body (F := F) i arg2 harg2 arg3 harg3 arg4 harg4 arg5 harg5 arg6 harg6 arg7 harg7 arg8 harg8 arg9 harg9 arg10 harg10 arg11 harg11 arg12 harg12 arg13 harg13 arg14 harg14 v20) where
  inv := fun k _ => iprop(Held (F := F) c arg7 D ∗ Held c arg11 BV ∗ Held c arg8 (filU v20 D BV U k) ∗ Held c arg9 (filI v20 D BV UI k) ∗ Held c arg10 (filC D BV C k))
  step := by
    intro k acc
    have hk : k.val < 16 := Nat.lt_of_lt_of_le k.isLt k1_t1_abs.2.1
    iintro H
    iapply (wp_wand_r Idealize.ShloMosaic.frame (wpE (defs₀ (F := F)) 𝒱 (c : Thread nD τ) bd) E)
    isplitl [H]
    · iapply (trip1 (F := F) 𝒱 c bd E i arg2 harg2 arg3 harg3 arg4 harg4 arg5 harg5 arg6 harg6 arg7 harg7 arg8 harg8 arg9 harg9 arg10 harg10 arg11 harg11 arg12 harg12 arg13 harg13 arg14 harg14 v20 k ⟨k.val, hk⟩ rfl)
      iexact H
    · iintro %u H
      simp only [filU, filI, filC, fill3_succ _ _ _ _ hk, fill1_succ _ _ hk]
      iexact H

end Cert.KernelIdeal.Knn

end
-- ==== Proof.Body.lean ====
/- The second kernel's body at one grid point, as a step on the lists it keeps. -/
module

public import proofs.«01_k».proof.Proof.Fill

@[expose] public section

set_option maxRecDepth 16384
set_option maxHeartbeats 4000000

noncomputable section

namespace Cert.KernelIdeal.Knn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The distances of a block of rows to a block of columns. -/
abbrev dist (X : FVec F S1024x512 .f32) (Y : FVec F S512x2048 .f32) (R : FVec F S1024x1 .f32) (C : FVec F S1x2048 .f32) : FVec F S1024x2048 .f32 := k1_pay234 (F := F) X Y R C

/-- The lists kept between grid points: the nearest so far and a spare pair. -/
structure St (F : FTy → Type) where
  bv : FVec F S1024x128 .f32
  bi : IVec S1024x128 32
  nv : FVec F S1024x128 .f32
  ni : IVec S1024x128 32

/-- The empty lists. -/
def St.init : St F := ⟨k1_pay230 (F := F), k1_pay231, k1_pay232 (F := F), k1_pay233⟩

/-- Whether some lane keeps more than three entries. -/
def over (D : FVec F S1024x2048 .f32) (BV : FVec F S1024x128 .f32) : BitVec 1 :=
  Scalar.cmpi .sgt (extractAt ![0, 0, 0] (k1_pay235 (F := F) (counts D BV)) inpos_S1x1x1_p0_0_0) 3#32

/-- The lane numbers. -/
abbrev lane : IVec S1024x128 32 := iota .tc S1024x128 32 [1] iota_S1024x128_d1_w32

/-- The first column of a block. -/
abbrev colBase (i : grid1.Coords) : BitVec 32 := Scalar.muli (BitVec.ofNat 32 (i 1).val) 2048#32

/-- The selected lists, by the fast selection unless some lane overflows. -/
def selected (v20 : BitVec 32) (D : FVec F S1024x2048 .f32) (s : St F) : FVec F S1024x128 .f32 × IVec S1024x128 32 :=
  if over D s.bv = 1#1 then
    ((sel3 v20 lane s.bi ⟨D, s.bv, s.nv, s.ni⟩ 16).nv, (sel3 v20 lane s.bi ⟨D, s.bv, s.nv, s.ni⟩ 16).ni)
  else
    ((sel2 lane (candI v20 D s.bv s.bi) ⟨candU v20 D s.bv, s.nv, s.ni⟩ 16).nv, (sel2 lane (candI v20 D s.bv s.bi) ⟨candU v20 D s.bv, s.nv, s.ni⟩ 16).ni)

/-- One block of columns taken into the lists. -/
def step (v20 : BitVec 32) (D : FVec F S1024x2048 .f32) (s : St F) : St F :=
  ⟨(selected v20 D s).1, (selected v20 D s).2, k1_pay12 (F := F), k1_pay13⟩

/-- The point is a row block's first. -/
abbrev isFirst (i : grid1.Coords) : Prop := Scalar.cmpi .ne (Scalar.extui (Scalar.cmpi .eq (BitVec.ofNat 32 (i 1).val) 0#32) : BitVec 32) 0#32 = 1#1

/-- The lists a grid point starts from: empty at a row block's first. -/
def start (i : grid1.Coords) (s : St F) : St F := if isFirst i then St.init else s

theorem trips1 : k1_t1_loop.trips = 16 := by decide +kernel
theorem trips2 : k1_t2_loop.trips = 16 := by decide +kernel
theorem trips3 : k1_t3_loop.trips = 16 := by decide +kernel

/-- A load of a whole buffer. -/
theorem ld512x2048 (m : Memref sig .tc .vmem S512x2048 .f32) (X : Vec F S512x2048 .f32) (h : ∀ a, (![0, 0] : Fin 2 → ℕ) a + (![512, 2048] : Fin 2 → ℕ) a ≤ S512x2048.size a) :
    View.readAt (Elt F) m.view (Rect.unit (s := S512x2048) ![0, 0] ![512, 2048] h).toLoadRect (m.view.rep X) = X :=
  View.readAt_rep_full _ _ h

/-- A load of a whole buffer. -/
theorem ld1024x1 (m : Memref sig .tc .vmem S1024x1 .f32) (X : Vec F S1024x1 .f32) (h : ∀ a, (![0, 0] : Fin 2 → ℕ) a + (![1024, 1] : Fin 2 → ℕ) a ≤ S1024x1.size a) :
    View.readAt (Elt F) m.view (Rect.unit (s := S1024x1) ![0, 0] ![1024, 1] h).toLoadRect (m.view.rep X) = X :=
  View.readAt_rep_full _ _ h

/-- A load of a whole buffer. -/
theorem ld1x2048 (m : Memref sig .tc .vmem S1x2048 .f32) (X : Vec F S1x2048 .f32) (h : ∀ a, (![0, 0] : Fin 2 → ℕ) a + (![1, 2048] : Fin 2 → ℕ) a ≤ S1x2048.size a) :
    View.readAt (Elt F) m.view (Rect.unit (s := S1x2048) ![0, 0] ![1, 2048] h).toLoadRect (m.view.rep X) = X :=
  View.readAt_rep_full _ _ h

/-- A load of a whole buffer. -/
theorem ld1024x512 (m : Memref sig .tc .vmem S1024x512 .f32) (X : Vec F S1024x512 .f32) (h : ∀ a, (![0, 0] : Fin 2 → ℕ) a + (![1024, 512] : Fin 2 → ℕ) a ≤ S1024x512.size a) :
    View.readAt (Elt F) m.view (Rect.unit (s := S1024x512) ![0, 0] ![1024, 512] h).toLoadRect (m.view.rep X) = X :=
  View.readAt_rep_full _ _ h

theorem bit1 : ∀ o : BitVec 1, o = 0#1 ∨ o = 1#1 := by decide

/-- The sixteen first lanes of a list. -/
def firstLanes (w : IVec S1024x128 32) : IVec S1024x16 32 :=
  VecWindow.window (s := S1024x128) w ![0, 0] S1024x16.size inb_S1024x128_S1024x16_0_0

/-- A load of the sixteen first lanes of a list just stored. -/
theorem ldEmit (m : Memref sig .tc .vmem S1024x128 .i32) (w : IVec S1024x128 32) :
    m.view.readCov (Val := Elt F) [⟨Rect.unit (s := S1024x128) ![0, 0] S1024x128.size inb_S1024x128_S1024x128_0_0, w⟩]
        (Rect.unit (s := S1024x128) ![0, 0] S1024x16.size inb_S1024x128_S1024x16_0_0).toLoadRect
      = firstLanes w :=
  (View.readAt_unit _ _ _ rfl inb_S1024x128_S1024x16_0_0).trans
    (congrArg firstLanes (View.read_writes_full _ _ _ _ _))

variable (𝒱 : Variants) (c : Dev nD) (bd : Option 𝒱.V) (E : Set ℕ) (i : grid1.Coords)
  (arg2 : Memref sig .tc .vmem S1024x512 .f32) (harg2 : arg2.IsWhole) (arg3 : Memref sig .tc .vmem S512x2048 .f32) (harg3 : arg3.IsWhole)
  (arg4 : Memref sig .tc .vmem S1024x1 .f32) (harg4 : arg4.IsWhole) (arg5 : Memref sig .tc .vmem S1x2048 .f32) (harg5 : arg5.IsWhole)
  (arg6 : Memref sig .tc .vmem S1024x16 .i32) (harg6 : arg6.IsWhole) (arg7 : Memref sig .tc .vmem S1024x2048 .f32) (harg7 : arg7.IsWhole)
  (arg8 : Memref sig .tc .vmem S1024x512 .f32) (harg8 : arg8.IsWhole) (arg9 : Memref sig .tc .vmem S1024x512 .i32) (harg9 : arg9.IsWhole)
  (arg10 : Memref sig .tc .vmem S1024x128 .i32) (harg10 : arg10.IsWhole) (arg11 : Memref sig .tc .vmem S1024x128 .f32) (harg11 : arg11.IsWhole)
  (arg12 : Memref sig .tc .vmem S1024x128 .i32) (harg12 : arg12.IsWhole) (arg13 : Memref sig .tc .vmem S1024x128 .f32) (harg13 : arg13.IsWhole)
  (arg14 : Memref sig .tc .vmem S1024x128 .i32) (harg14 : arg14.IsWhole)

/-- The body up to its strip filter's outcome. -/
theorem part9 (X : FVec F S1024x512 .f32) (Y : FVec F S512x2048 .f32) (R : FVec F S1024x1 .f32) (C : FVec F S1x2048 .f32) (D₀ : FVec F S1024x2048 .f32)
    (U : FVec F S1024x512 .f32) (UI : IVec S1024x512 32) (N : IVec S1024x128 32) (s : St F) :
    iprop(Held (F := F) c arg2 X ∗ Held c arg3 Y ∗ Held c arg4 R ∗ Held c arg5 C ∗ Held c arg7 D₀ ∗ Held c arg8 U ∗ Held c arg9 UI ∗ Held c arg10 N
        ∗ Held c arg11 s.bv ∗ Held c arg12 s.bi ∗ Held c arg13 s.nv ∗ Held c arg14 s.ni : sProp 𝕄G)
      ⊢ wp Idealize.ShloMosaic.frame (wpE (defs₀ (F := F)) 𝒱 (c : Thread nD τ) bd) E
          (k1_part9 (F := F) i arg2 harg2 arg3 harg3 arg4 harg4 arg5 harg5 arg6 harg6 arg7 harg7 arg8 harg8 arg9 harg9 arg10 harg10 arg11 harg11 arg12 harg12 arg13 harg13 arg14 harg14)
          (fun r => iprop(⌜r = ⟨BitVec.ofNat 32 (i 1).val, colBase i, lane, over (dist X Y R C) (start i s).bv, Scalar.extui (Scalar.xori (over (dist X Y R C) (start i s).bv) 1#1)⟩⌝
            ∗ Held c arg2 X ∗ Held c arg3 Y ∗ Held c arg4 R ∗ Held c arg5 C ∗ Held c arg7 (dist X Y R C)
            ∗ Held c arg8 (filU (colBase i) (dist X Y R C) (start i s).bv U 16) ∗ Held c arg9 (filI (colBase i) (dist X Y R C) (start i s).bv UI 16)
            ∗ Held c arg10 (counts (dist X Y R C) (start i s).bv)
            ∗ Held c arg11 (start i s).bv ∗ Held c arg12 (start i s).bi ∗ Held c arg13 (start i s).nv ∗ Held c arg14 (start i s).ni)) := by
  rw [k1_part9_eq_skeleton]
  unfold k1_part9_skel
  iintro ⟨H2, H3, H4, H5, H7, H8, H9, H10, H11, H12, H13, H14⟩
  sl_exec
  ihave H7 : Held (F := F) c arg7 (dist X Y R C) $$ [H7]
  · iapply (held_of c arg7 _ _) $$ H7
    ipureintro
    sl_unfold_run_names
    refine (View.read_writes_full _ _ _ _ _).trans ?_
    simp only [ld1024x512, ld512x2048, ld1024x1, ld1x2048]
  ihave H11 : Held (F := F) c arg11 (start i s).bv $$ [H11]
  · iapply (held_of c arg11 _ _) $$ H11
    ipureintro
    sl_unfold_run_names
    unfold start
    split
    · exact View.read_writes_full _ _ _ _ _
    · exact View.read_rep _ _
  ihave H12 : Held (F := F) c arg12 (start i s).bi $$ [H12]
  · iapply (held_of c arg12 _ _) $$ H12
    ipureintro
    sl_unfold_run_names
    unfold start
    split
    · exact View.read_writes_full _ _ _ _ _
    · exact View.read_rep _ _
  ihave H13 : Held (F := F) c arg13 (start i s).nv $$ [H13]
  · iapply (held_of c arg13 _ _) $$ H13
    ipureintro
    sl_unfold_run_names
    unfold start
    split
    · exact View.read_writes_full _ _ _ _ _
    · exact View.read_rep _ _
  ihave H14 : Held (F := F) c arg14 (start i s).ni $$ [H14]
  · iapply (held_of c arg14 _ _) $$ H14
    ipureintro
    sl_unfold_run_names
    unfold start
    split
    · exact View.read_writes_full _ _ _ _ _
    · exact View.read_rep _ _
  sl_exec
  sl_step
  have eC : filC (dist X Y R C) (start i s).bv N 16 = counts (dist X Y R C) (start i s).bv := fill1_all _ _
  have eT : Scf.trips k1_t1_loop.lb k1_t1_loop.ub k1_t1_loop.st = 16 := trips1
  rw [eT, eC]
  isplitr
  · ipureintro
    sl_unfold_run_names
    simp only [ld128, eT, eC]
    rfl
  iframe
  isplitl [H8]
  · iexact H8
  · iexact H9

/-- The body at one grid point. -/
theorem knnBody (X : FVec F S1024x512 .f32) (Y : FVec F S512x2048 .f32) (R : FVec F S1024x1 .f32) (C : FVec F S1x2048 .f32) (O : IVec S1024x16 32) (D₀ : FVec F S1024x2048 .f32)
    (U : FVec F S1024x512 .f32) (UI : IVec S1024x512 32) (N : IVec S1024x128 32) (s : St F) :
    iprop(Held (F := F) c arg2 X ∗ Held c arg3 Y ∗ Held c arg4 R ∗ Held c arg5 C ∗ Held c arg6 O ∗ Held c arg7 D₀ ∗ Held c arg8 U ∗ Held c arg9 UI ∗ Held c arg10 N
        ∗ Held c arg11 s.bv ∗ Held c arg12 s.bi ∗ Held c arg13 s.nv ∗ Held c arg14 s.ni : sProp 𝕄G)
      ⊢ wp Idealize.ShloMosaic.frame (wpE (defs₀ (F := F)) 𝒱 (c : Thread nD τ) bd) E
          (cc1__knn_body (F := F) i arg2 harg2 arg3 harg3 arg4 harg4 arg5 harg5 arg6 harg6 arg7 harg7 arg8 harg8 arg9 harg9 arg10 harg10 arg11 harg11 arg12 harg12 arg13 harg13 arg14 harg14)
          (fun _ => iprop(Held (F := F) c arg2 X ∗ Held c arg3 Y ∗ Held c arg4 R ∗ Held c arg5 C
            ∗ Held c arg6 (if k1_cond4 i = 1#1 then firstLanes (step (colBase i) (dist X Y R C) (start i s)).bi else O)
            ∗ (∃ D', Held c arg7 D') ∗ (∃ U', Held c arg8 U') ∗ (∃ UI', Held c arg9 UI') ∗ (∃ N', Held c arg10 N')
            ∗ Held c arg11 (step (colBase i) (dist X Y R C) (start i s)).bv ∗ Held c arg12 (step (colBase i) (dist X Y R C) (start i s)).bi
            ∗ Held c arg13 (step (colBase i) (dist X Y R C) (start i s)).nv ∗ Held c arg14 (step (colBase i) (dist X Y R C) (start i s)).ni)) := by
  rw [cc1__knn_body_eq_skeleton]
  unfold cc1__knn_body_skel
  rw [wp_bind]
  iintro ⟨H2, H3, H4, H5, H6, H7, H8, H9, H10, H11, H12, H13, H14⟩
  iapply (wp_wand_r Idealize.ShloMosaic.frame (wpE (defs₀ (F := F)) 𝒱 (c : Thread nD τ) bd) E)
  isplitr [H6]
  · iapply (part9 (F := F) 𝒱 c bd E i arg2 harg2 arg3 harg3 arg4 harg4 arg5 harg5 arg6 harg6 arg7 harg7 arg8 harg8 arg9 harg9 arg10 harg10 arg11 harg11 arg12 harg12 arg13 harg13 arg14 harg14 X Y R C D₀ U UI N s)
    iframe
  iintro %r ⟨%hr, H2, H3, H4, H5, H7, H8, H9, H10, H11, H12, H13, H14⟩
  subst hr
  generalize hD : dist X Y R C = D at *
  generalize hs : start i s = s₁ at *
  generalize ho : over D s₁.bv = o at *
  rcases bit1 o with rfl | rfl
  · sl_exec (disch := decide)
    ihave H8 : Held (F := F) c arg8 (candU (colBase i) D s₁.bv) $$ [H8]
    · iapply (held_of c arg8 _ _) $$ H8
      ipureintro
      refine (View.read_writes_rep_unit _ _ _ _ rfl).trans ?_
      sl_unfold_run_names
      simp only [ld128]
      refine (congrArg (fun y => VecWindow.put (filU (colBase i) D s₁.bv U 16) ![0, 384] ![1024, 128] y) (shapeCast_self _ _)).trans ?_
      exact fill3_all _ _ _ _ _
    ihave H9 : Held (F := F) c arg9 (candI (colBase i) D s₁.bv s₁.bi) $$ [H9]
    · iapply (held_of c arg9 _ _) $$ H9
      ipureintro
      refine (View.read_writes_rep_unit _ _ _ _ rfl).trans ?_
      sl_unfold_run_names
      simp only [ld128]
      refine (congrArg (fun y => VecWindow.put (filI (colBase i) D s₁.bv UI 16) ![0, 384] ![1024, 128] y) (shapeCast_self _ _)).trans ?_
      exact fill3_all _ _ _ _ _
    sl_exec (disch := decide)
    have eT : Scf.trips k1_t2_loop.lb k1_t2_loop.ub k1_t2_loop.st = 16 := trips2
    sl_step
    have eS : step (colBase i) D s₁ = ⟨(selected (colBase i) D s₁).1, (selected (colBase i) D s₁).2, k1_pay12 (F := F), k1_pay13⟩ := rfl
    have h1 : (selected (colBase i) D s₁).1 = (sel2 lane (candI (colBase i) D s₁.bv s₁.bi) ⟨candU (colBase i) D s₁.bv, s₁.nv, s₁.ni⟩ 16).nv := by unfold selected; rw [ho]; rfl
    have h2 : (selected (colBase i) D s₁).2 = (sel2 lane (candI (colBase i) D s₁.bv s₁.bi) ⟨candU (colBase i) D s₁.bv, s₁.nv, s₁.ni⟩ 16).ni := by unfold selected; rw [ho]; rfl
    rw [h1, h2] at eS
    rw [eS]
    isplitl [H2]; · iexact H2
    isplitl [H3]; · iexact H3
    isplitl [H4]; · iexact H4
    isplitl [H5]; · iexact H5
    isplitl [H6]
    · iapply (held_of c arg6 _ _) $$ H6
      ipureintro
      sl_unfold_run_names
      split
      · refine (View.read_writes_full _ _ _ _ _).trans ?_
        refine (ldEmit _ _).trans ?_
        simp only [ld128, eT]
        exact congrArg firstLanes (shapeCast_self _ _)
      · exact View.read_rep _ _
    isplitl [H7]; · iexists _; iexact H7
    isplitl [H8]; · iexists _; iexact H8
    isplitl [H9]; · iexists _; iexact H9
    isplitl [H10]; · iexists _; iexact H10
    isplitl [H11]
    · iapply (held_of c arg11 _ _) $$ H11
      ipureintro
      sl_unfold_run_names
      refine (View.read_writes_full _ _ _ _ _).trans ?_
      simp only [ld128, eT]
      exact shapeCast_self _ _
    isplitl [H12]
    · iapply (held_of c arg12 _ _) $$ H12
      ipureintro
      sl_unfold_run_names
      refine (View.read_writes_full _ _ _ _ _).trans ?_
      simp only [ld128, eT]
      exact shapeCast_self _ _
    isplitl [H13]
    · iapply (held_of c arg13 _ _) $$ H13
      ipureintro
      exact View.read_writes_full _ _ _ _ _
    · iapply (held_of c arg14 _ _) $$ H14
      ipureintro
      exact View.read_writes_full _ _ _ _ _
  · sl_exec (disch := decide)
    have eT : Scf.trips k1_t3_loop.lb k1_t3_loop.ub k1_t3_loop.st = 16 := trips3
    sl_step
    have eS : step (colBase i) D s₁ = ⟨(selected (colBase i) D s₁).1, (selected (colBase i) D s₁).2, k1_pay12 (F := F), k1_pay13⟩ := rfl
    have h1 : (selected (colBase i) D s₁).1 = (sel3 (colBase i) lane s₁.bi ⟨D, s₁.bv, s₁.nv, s₁.ni⟩ 16).nv := by unfold selected; rw [ho]; rfl
    have h2 : (selected (colBase i) D s₁).2 = (sel3 (colBase i) lane s₁.bi ⟨D, s₁.bv, s₁.nv, s₁.ni⟩ 16).ni := by unfold selected; rw [ho]; rfl
    rw [h1, h2] at eS
    rw [eS]
    isplitl [H2]; · iexact H2
    isplitl [H3]; · iexact H3
    isplitl [H4]; · iexact H4
    isplitl [H5]; · iexact H5
    isplitl [H6]
    · iapply (held_of c arg6 _ _) $$ H6
      ipureintro
      sl_unfold_run_names
      split
      · refine (View.read_writes_full _ _ _ _ _).trans ?_
        refine (ldEmit _ _).trans ?_
        simp only [ld128, eT]
        exact congrArg firstLanes (shapeCast_self _ _)
      · exact View.read_rep _ _
    isplitl [H7]; · iexists _; iexact H7
    isplitl [H8]; · iexists _; iexact H8
    isplitl [H9]; · iexists _; iexact H9
    isplitl [H10]; · iexists _; iexact H10
    isplitl [H11]
    · iapply (held_of c arg11 _ _) $$ H11
      ipureintro
      sl_unfold_run_names
      refine (View.read_writes_full _ _ _ _ _).trans ?_
      simp only [ld128, eT]
      exact shapeCast_self _ _
    isplitl [H12]
    · iapply (held_of c arg12 _ _) $$ H12
      ipureintro
      sl_unfold_run_names
      refine (View.read_writes_full _ _ _ _ _).trans ?_
      simp only [ld128, eT]
      exact shapeCast_self _ _
    isplitl [H13]
    · iapply (held_of c arg13 _ _) $$ H13
      ipureintro
      exact View.read_writes_full _ _ _ _ _
    · iapply (held_of c arg14 _ _) $$ H14
      ipureintro
      exact View.read_writes_full _ _ _ _ _

end Cert.KernelIdeal.Knn

end
-- ==== Proof.Run.lean ====
/- The two kernels' bodies at every grid point, and the run of the whole program: what each region leaves,
   read off the buffers at the end. -/
module

public import proofs.«01_k».proof.Proof.Body
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.ValueKit
public import Idealize.ShloMosaic.Lib.Pipeline.TableIdle

@[expose] public section

set_option maxRecDepth 16384
set_option maxHeartbeats 4000000

noncomputable section

namespace Cert.KernelIdeal.Knn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- A triple met at any post it leads to. -/
theorem wp_cont {P Q Ψ : sProp 𝕄G} {𝒱 : Variants} {c : Dev nD} {bd : Option 𝒱.V} {E : Set ℕ} {p : Prog (TpuEff nD τ sig (Elt F) Λ₀ .tc) PUnit}
    (h : P ⊢ wp Idealize.ShloMosaic.frame (wpE (defs₀ (F := F)) 𝒱 (c : Thread nD τ) bd) E p (fun _ => Q)) :
    iprop(P ∗ (Q -∗ Ψ)) ⊢ wp Idealize.ShloMosaic.frame (wpE (defs₀ (F := F)) 𝒱 (c : Thread nD τ) bd) E p (fun _ => Ψ) := by
  exact (BI.sep_mono h (sProp.forall_intro fun _ => .rfl)).trans (wp_wand_r Idealize.ShloMosaic.frame (wpE (defs₀ (F := F)) 𝒱 (c : Thread nD τ) bd) E (Q := fun _ => Q))

/-! ## The first kernel -/

/-- The squared norms of the rows. -/
abbrev norms (X : FVec F S8192x512 .f32) : FVec F S8192x1 .f32 := k0_pay1 (F := F) X

theorem normsBody (𝒱 : Variants) (c : Dev nD) (bd : Option 𝒱.V) (E : Set ℕ) (arg0 : Memref sig .tc .vmem S8192x512 .f32) (harg0 : arg0.IsWhole)
    (arg1 : Memref sig .tc .vmem S8192x1 .f32) (harg1 : arg1.IsWhole) (X : FVec F S8192x512 .f32) (O : FVec F S8192x1 .f32) :
    iprop(Held (F := F) c arg0 X ∗ Held c arg1 O : sProp 𝕄G)
      ⊢ wp Idealize.ShloMosaic.frame (wpE (defs₀ (F := F)) 𝒱 (c : Thread nD τ) bd) E (cc0__norms_body (F := F) arg0 harg0 arg1 harg1)
          (fun _ => iprop(Held c arg0 X ∗ Held c arg1 (norms X))) := by
  unfold cc0__norms_body
  iintro ⟨H0, H1⟩
  sl_exec
  sl_step
  isplitl [H0]
  · iexact H0
  · iapply (held_of c arg1 _ _) $$ H1
    ipureintro
    refine (View.read_writes_full _ _ _ _ _).trans ?_
    exact congrArg norms (View.readAt_rep_full _ _ _)

/-- The first region's proof data over the contents `V` at its entry. -/
def dat0 (V : Valuation τ sig (Elt F)) (c : Dev nD) : Pipeline.Dat τ (Elt F) Unit ℕ (UR sig nD τ) ℕ cfg0 c where
  A w := V (Pipeline.arrRef spec0 w)
  after w _ := match w with
    | ⟨0, _⟩ => ((cfg0.win 0).blk t0_0).view.read (Elt F) (V (Pipeline.arrRef spec0 0))
    | ⟨1, _⟩ => norms (((cfg0.win 0).blk t0_0).view.read (Elt F) (V (Pipeline.arrRef spec0 0)))
    | ⟨_ + 2, h⟩ => absurd h (Nat.not_lt.2 (Nat.le_add_left _ _))
  Φ _ := Pipeline.scopedRest spec0 c
  q _ := fullShare
  owed _ := 0

theorem body0 (V : Valuation τ sig (Elt F)) (c : Dev nD) : Pipeline.BodyObligation (dat0 V c) (defs₀ (F := F)) Variants.none () Set.univ := fun t => by
  obtain rfl := fin_N0 t
  rw [bigSep_W0, bigSep_W0]
  simp only [owns_eq_rep]
  rw [show (dat0 V c).Φ t0_0.castSucc = Pipeline.scopedRest spec0 c from rfl, show (dat0 V c).Φ t0_0.succ = Pipeline.scopedRest spec0 c from rfl]
  unfold Pipeline.Dat.owesAt Pipeline.owesWithin
  rw [show (dat0 V c).owed t0_0.castSucc = 0 from rfl, show (dat0 V c).owed t0_0.succ = 0 from rfl]
  iintro ⟨Hr, ⟨%W, %hW, HO⟩, ⟨%d0, H0⟩, ⟨%d1, H1⟩⟩
  rw [(dat0 V c).before_fetched 0 t0_0 (fetch0_0 _)]
  iapply (wp_cont (normsBody Variants.none c none Set.univ _ (hstage0_0 0) _ (hstage0_1 0) (((cfg0.win 0).blk t0_0).view.read (Elt F) (V (Pipeline.arrRef spec0 0))) ((dat0 V c).before 1 t0_0 d1)))
  isplitl [H0 H1]
  · isplitl [H0]; · iexact H0
    iexact H1
  iintro ⟨H0, H1⟩
  isplitl [Hr]; · iexact Hr
  isplitl [HO]
  · iexists W; isplitr; · ipureintro; exact fun _ _ => Or.inl trivial
    iexact HO
  isplitl [H0]; · iexact H0
  iexact H1

/-! ## The second kernel -/

/-- A whole buffer at some contents holds some values, -/
theorem whole_held (c : Dev nD) (b : Ref sig .tc) :
    iprop(∃ f : Buf (Elt F) ((c : Thread nD τ).loc b), ((c : Thread nD τ).loc b) ↦{fullShare} f)
      ⊢ (iprop(∃ X : b.ty.Contents (Elt F), (Memref.whole b).view.loc (c : Thread nD τ) ↦[(Memref.whole b).view.set]{fullShare} (Memref.whole b).view.rep X) : sProp 𝕄G) := by
  iintro ⟨%f, H⟩
  iexists f
  iapply (rep_of_owns (c : Thread nD τ) (Memref.whole b) fullShare f)
  rw [owns_whole_eq]
  iexists f
  isplitr; · ipureintro; rfl
  iexact H

/-- and back. -/
theorem held_whole (c : Dev nD) (b : Ref sig .tc) (X : b.ty.Contents (Elt F)) :
    (iprop((Memref.whole b).view.loc (c : Thread nD τ) ↦[(Memref.whole b).view.set]{fullShare} (Memref.whole b).view.rep X) : sProp 𝕄G)
      ⊢ iprop(∃ f : Buf (Elt F) ((c : Thread nD τ).loc b), ((c : Thread nD τ).loc b) ↦{fullShare} f) := by
  refine (owns_of_rep (c : Thread nD τ) (Memref.whole b) fullShare X).trans ?_
  rw [owns_whole_eq]
  iintro ⟨%f, %hf, H⟩
  iexists f
  iexact H

section

variable (V : Valuation τ sig (Elt F))

/-- The block of rows at a grid point, -/
def blkX (t : Fin cfg1.N) : FVec F S1024x512 .f32 := ((cfg1.win 0).blk t).view.read (Elt F) (V (Pipeline.arrRef spec1 0))
/-- the block of columns, -/
def blkY (t : Fin cfg1.N) : FVec F S512x2048 .f32 := ((cfg1.win 1).blk t).view.read (Elt F) (V (Pipeline.arrRef spec1 1))
/-- the rows' norms -/
def blkR (t : Fin cfg1.N) : FVec F S1024x1 .f32 := ((cfg1.win 2).blk t).view.read (Elt F) (V (Pipeline.arrRef spec1 2))
/-- and the columns'. -/
def blkC (t : Fin cfg1.N) : FVec F S1x2048 .f32 := ((cfg1.win 3).blk t).view.read (Elt F) (V (Pipeline.arrRef spec1 3))

/-- The lists after a grid point, from those before it. -/
def stepAt (t : Fin cfg1.N) (s : St F) : St F :=
  step (colBase (grid1.coords t)) (dist (blkX V t) (blkY V t) (blkR V t) (blkC V t)) (start (grid1.coords t) s)

/-- The lists before each grid point. -/
def stAt : ℕ → St F
  | 0 => St.init
  | t + 1 => if h : t < cfg1.N then stepAt V ⟨t, h⟩ (stAt t) else stAt t

theorem stAt_succ (t : Fin cfg1.N) : stAt V (t.val + 1) = stepAt V t (stAt V t.val) := dif_pos t.isLt

/-- At the first point the lists start empty whatever they held. -/
theorem stepAt_zero (t : Fin cfg1.N) (h : t.val = 0) (s s' : St F) : stepAt V t s = stepAt V t s' := by
  have hf : isFirst (grid1.coords t) := by
    obtain ⟨n, hn⟩ := t
    subst h
    exact (by decide +kernel : isFirst (grid1.coords ⟨0, by decide +kernel⟩))
  unfold stepAt start
  rw [if_pos hf, if_pos hf]

/-- The invariant between grid points: the lists, and the rest of the scratch at some values. -/
def Φ1 (c : Dev nD) (t : ℕ) : sProp 𝕄G :=
  iprop(∃ s : St F, ⌜0 < t → s = stAt V t⌝
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ D : FVec F S1024x2048 .f32, Held c (Memref.whole cc1_scratch0) D)
    ∗ (∃ U : FVec F S1024x512 .f32, Held c (Memref.whole cc1_scratch1) U)
    ∗ (∃ UI : IVec S1024x512 32, Held c (Memref.whole cc1_scratch2) UI)
    ∗ (∃ N : IVec S1024x128 32, Held c (Memref.whole cc1_scratch3) N)
    ∗ Held c (Memref.whole cc1_scratch4) s.bv ∗ Held c (Memref.whole cc1_scratch5) s.bi
    ∗ Held c (Memref.whole cc1_scratch6) s.nv ∗ Held c (Memref.whole cc1_scratch7) s.ni)

/-- The second region's proof data over the contents `V` at its entry. -/
def dat1 (c : Dev nD) : Pipeline.Dat τ (Elt F) Unit ℕ (UR sig nD τ) ℕ cfg1 c where
  A w := V (Pipeline.arrRef spec1 w)
  after w t := match w with
    | ⟨0, _⟩ => blkX V t
    | ⟨1, _⟩ => blkY V t
    | ⟨2, _⟩ => blkR V t
    | ⟨3, _⟩ => blkC V t
    | ⟨4, _⟩ => firstLanes (stAt V (t.val + 1)).bi
    | ⟨_ + 5, h⟩ => absurd h (Nat.not_lt.2 (Nat.le_add_left _ _))
  Φ t := Φ1 V c t.val
  q _ := fullShare
  owed _ := 0

theorem before1_0 (c : Dev nD) (t : Fin cfg1.N) (d) : (dat1 V c).before 0 t d = blkX V t :=
  (dat1 V c).before_in_eq_fetched 0 rfl (fun _ => rfl) (fun _ _ _ => rfl) (fun _ => rfl) t d
theorem before1_1 (c : Dev nD) (t : Fin cfg1.N) (d) : (dat1 V c).before 1 t d = blkY V t :=
  (dat1 V c).before_in_eq_fetched 1 rfl (fun _ => rfl) (fun _ _ _ => rfl) (fun _ => rfl) t d
theorem before1_2 (c : Dev nD) (t : Fin cfg1.N) (d) : (dat1 V c).before 2 t d = blkR V t :=
  (dat1 V c).before_in_eq_fetched 2 rfl (fun _ => rfl) (fun _ _ _ => rfl) (fun _ => rfl) t d
theorem before1_3 (c : Dev nD) (t : Fin cfg1.N) (d) : (dat1 V c).before 3 t d = blkC V t :=
  (dat1 V c).before_in_eq_fetched 3 rfl (fun _ => rfl) (fun _ _ _ => rfl) (fun _ => rfl) t d

/-- The result's window is written exactly at a row block's last point. -/
theorem last_iff : ∀ t : Fin cfg1.N, (k1_cond4 (grid1.coords t) = 1#1 ↔ (cfg1.win 4).flush t = true) :=
  (by decide +kernel : ∀ t : Fin grid1.N, (k1_cond4 (grid1.coords t) = 1#1 ↔ win1_4.flush t = true))

theorem body1 (c : Dev nD) : Pipeline.BodyObligation (dat1 V c) (defs₀ (F := F)) Variants.none () Set.univ := fun t => by
  rw [bigSep_W1, bigSep_W1]
  rw [show (dat1 V c).Φ t.castSucc = Φ1 V c t.val from rfl, show (dat1 V c).Φ t.succ = Φ1 V c (t.val + 1) from rfl]
  unfold Pipeline.Dat.owesAt Pipeline.owesWithin
  rw [show (dat1 V c).owed t.castSucc = 0 from rfl, show (dat1 V c).owed t.succ = 0 from rfl]
  unfold Φ1
  simp only [owns_eq_rep]
  iintro ⟨⟨%s, %hs, Hg0, Hg1, ⟨%D, HD⟩, ⟨%U, HU⟩, ⟨%UI, HUI⟩, ⟨%N, HN⟩, Hbv, Hbi, Hnv, Hni⟩, ⟨%W, %hW, HO⟩, ⟨%d0, H0⟩, ⟨%d1, H1⟩, ⟨%d2, H2⟩, ⟨%d3, H3⟩, ⟨%d4, H4⟩⟩
  rw [before1_0 V c t d0, before1_1 V c t d1, before1_2 V c t d2, before1_3 V c t d3]
  have hst : stepAt V t s = stAt V (t.val + 1) := by
    rw [stAt_succ]
    rcases Nat.eq_zero_or_pos t.val with h | h
    · exact stepAt_zero V t h _ _
    · rw [hs h]
  iapply (wp_cont (knnBody Variants.none c none Set.univ (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    (Memref.whole cc1_scratch6) (Memref.isWhole_whole _) (Memref.whole cc1_scratch7) (Memref.isWhole_whole _)
    (blkX V t) (blkY V t) (blkR V t) (blkC V t) ((dat1 V c).before 4 t d4) D U UI N s))
  isplitr [Hg0 Hg1 HO]
  · isplitl [H0]; · iexact H0
    isplitl [H1]; · iexact H1
    isplitl [H2]; · iexact H2
    isplitl [H3]; · iexact H3
    isplitl [H4]; · iexact H4
    isplitl [HD]; · iexact HD
    isplitl [HU]; · iexact HU
    isplitl [HUI]; · iexact HUI
    isplitl [HN]; · iexact HN
    isplitl [Hbv]; · iexact Hbv
    isplitl [Hbi]; · iexact Hbi
    isplitl [Hnv]; · iexact Hnv
    iexact Hni
  rw [show step (colBase (grid1.coords t)) (dist (blkX V t) (blkY V t) (blkR V t) (blkC V t)) (start (grid1.coords t) s) = stAt V (t.val + 1) from hst]
  iintro ⟨H0, H1, H2, H3, H4, HD, HU, HUI, HN, Hbv, Hbi, Hnv, Hni⟩
  isplitl [Hg0 Hg1 HD HU HUI HN Hbv Hbi Hnv Hni]
  · iexists (stAt V (t.val + 1))
    isplitr; · ipureintro; exact fun _ => rfl
    isplitl [Hg0]; · iexact Hg0
    isplitl [Hg1]; · iexact Hg1
    isplitl [HD]; · iexact HD
    isplitl [HU]; · iexact HU
    isplitl [HUI]; · iexact HUI
    isplitl [HN]; · iexact HN
    isplitl [Hbv]; · iexact Hbv
    isplitl [Hbi]; · iexact Hbi
    isplitl [Hnv]; · iexact Hnv
    iexact Hni
  isplitl [HO]
  · iexists W; isplitr; · ipureintro; exact fun _ _ => Or.inl trivial
    iexact HO
  isplitl [H0]; · iexact H0
  isplitl [H1]; · iexact H1
  isplitl [H2]; · iexact H2
  isplitl [H3]; · iexact H3
  by_cases h : k1_cond4 (grid1.coords t) = 1#1
  · rw [if_pos h]
    have hi : cfg1.idle 4 (cfg1.grid.coords t) = false := by
      show (!(k1_cond4 (grid1.coords t) == 1#1)) = false
      rw [h]; rfl
    rw [show idle1 4 (grid1.coords t) = false from hi]
    iexact H4
  · rw [if_neg h]
    have hi : cfg1.idle 4 (cfg1.grid.coords t) = true := by
      show (!(k1_cond4 (grid1.coords t) == 1#1)) = true
      rw [beq_eq_false_iff_ne.mpr h]; rfl
    have hf : (cfg1.win 4).flush t = false := Bool.eq_false_iff.mpr fun e => h ((last_iff t).mpr e)
    rw [show idle1 4 (grid1.coords t) = true from hi]
    try rw [show win1_4.flush t = false from hf]
    iexists d4
    iexact H4

end

end Cert.KernelIdeal.Knn

end
-- ==== Proof.Regs.lean ====
/- The program's two regions, the host operations between and after them, and what every
   buffer outside the regions' own holds after each. -/
module

public import proofs.«01_k».proof.Proof.Run
public import proofs.«01_k».proof.Proof.Gen.KernelIdeal.Regions

@[expose] public section

set_option maxRecDepth 16384
set_option maxHeartbeats 800000

noncomputable section

namespace Cert.KernelIdeal.Knn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

open Idealize.ShloMosaic.Pipeline (Dat Seg HostSeg RegionSeg)

/-! ## The buffers' contents between the items -/

variable (m : (ℓ : Loc nD τ sig) → Buf (Elt F) ℓ)

/-- At the start, -/
def A0 (c : Dev nD) : Valuation τ sig (Elt F) := fun b => m (c, b)
/-- after the first region, -/
def A1 (c : Dev nD) : Valuation τ sig (Elt F) := Pipeline.afterRegion (dat0 (A0 m c) c) (A0 m c)
/-- after the transposes, -/
def A2 (c : Dev nD) : Valuation τ sig (Elt F) := StableHlo.after hostOps1 (A1 m c)
/-- after the second region, -/
def A3 (c : Dev nD) : Valuation τ sig (Elt F) := Pipeline.afterRegion (dat1 (A2 m c) c) (A2 m c)
/-- and at the end. -/
def A4 (c : Dev nD) : Valuation τ sig (Elt F) := StableHlo.after hostOps2 (A3 m c)

/-- The regions' proof data. -/
def pd : (p : Fin 2) → (c : Dev nD) → Dat τ (Elt F) Unit ℕ (UR sig nD τ) ℕ (cfgs p) c
  | ⟨0, _⟩ => fun c => dat0 (A0 m c) c
  | ⟨1, _⟩ => fun c => dat1 (A2 m c) c
  | ⟨_ + 2, h⟩ => absurd h (Nat.not_lt.2 (Nat.le_add_left _ _))

/-- Every thread of a TensorCore waits at one level. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) adm () L lv p (fun _ => 0) (fun _ => 0) where
  hι c w s := by show () ∈ (if _ then _ else _); rw [if_pos rfl]; exact Finset.mem_singleton_self _
  hιb c w s := Nat.le_refl _
  hD c g i h := absurd h (Nat.lt_irrefl _)

/-- What rides beside the buffers: the core owes nothing. -/
abbrev Rest (c : Dev nD) : sProp 𝕄G := iprop(∃ W, owes (c : Thread nD τ) (0 : CellTallies nD τ sig Unit) W)

/-- The first region. -/
def reg0 : RegionSeg (pcfgs (F := F)) adm (pd m) () defs₀ Variants.none L lv 0 :=
  RegionSeg.ofHeldIn (pcfgs (F := F)) adm (pd m) () defs₀ Variants.none L lv 0 (fun _ => 0) (Pipeline.ucRefs τ sig) (fun _ => iprop(emp)) (fun _ => iprop(emp))
    launch0.toP rfl (fun c => (body0 (A0 m c) c).loose) (fun _ _ => rfl) (fun _ => rfl)
    (fun c w => (pd m 0 c).share_full (fun _ => rfl) w)
    (fun c => by
      show iprop(Pipeline.scopedRest spec0 c ∗ emp) ⊢ (Pipeline.scopedRest spec0 c : sProp 𝕄G)
      iintro ⟨H, -⟩; iexact H)
    (fun c => by
      show (Pipeline.scopedRest spec0 c : sProp 𝕄G) ⊢ iprop(Pipeline.scopedRest spec0 c ∗ emp)
      iintro H
      isplitl [H]; · iexact H
      iempintro)
    (fun _ => 0) (cut 0) (fun _ => iprop(emp)) (A0 m) (fun c w => rfl)

/-- The second region. -/
def reg1 : RegionSeg (pcfgs (F := F)) adm (pd m) () defs₀ Variants.none L lv 1 :=
  RegionSeg.ofHeldIn (pcfgs (F := F)) adm (pd m) () defs₀ Variants.none L lv 1 (fun _ => 0) (Pipeline.ucRefs τ sig) (fun _ => iprop(emp)) (fun _ => iprop(emp))
    launch1.toP rfl (fun c => (body1 (A2 m c) c).loose) (fun _ _ => rfl) (fun _ => rfl)
    (fun c w => (pd m 1 c).share_full (fun _ => rfl) w)
    (fun c => by
      show iprop(Pipeline.scopedRest spec1 c ∗ emp) ⊢ (Φ1 (A2 m c) c 0 : sProp 𝕄G)
      rw [scopedRest1_eq]
      unfold Φ1
      iintro ⟨⟨Hg0, Hg1, H0, H1, H2, H3, H4, H5, H6, H7⟩, -⟩
      ihave K0 := (whole_held c cc1_scratch0) $$ H0
      ihave K1 := (whole_held c cc1_scratch1) $$ H1
      ihave K2 := (whole_held c cc1_scratch2) $$ H2
      ihave K3 := (whole_held c cc1_scratch3) $$ H3
      ihave K4 := (whole_held c cc1_scratch4) $$ H4
      ihave K5 := (whole_held c cc1_scratch5) $$ H5
      ihave K6 := (whole_held c cc1_scratch6) $$ H6
      ihave K7 := (whole_held c cc1_scratch7) $$ H7
      icases K4 with ⟨%bv, K4⟩
      icases K5 with ⟨%bi, K5⟩
      icases K6 with ⟨%nv, K6⟩
      icases K7 with ⟨%ni, K7⟩
      iexists (⟨bv, bi, nv, ni⟩ : St F)
      isplitr; · ipureintro; exact fun h => absurd h (Nat.lt_irrefl _)
      isplitl [Hg0]; · iexact Hg0
      isplitl [Hg1]; · iexact Hg1
      isplitl [K0]; · iexact K0
      isplitl [K1]; · iexact K1
      isplitl [K2]; · iexact K2
      isplitl [K3]; · iexact K3
      isplitl [K4]; · iexact K4
      isplitl [K5]; · iexact K5
      isplitl [K6]; · iexact K6
      iexact K7)
    (fun c => by
      show (Φ1 (A2 m c) c (Fin.last cfg1.N).val : sProp 𝕄G) ⊢ iprop(Pipeline.scopedRest spec1 c ∗ emp)
      rw [scopedRest1_eq]
      unfold Φ1
      iintro ⟨%s, %hs, Hg0, Hg1, ⟨%D, K0⟩, ⟨%U, K1⟩, ⟨%UI, K2⟩, ⟨%N, K3⟩, K4, K5, K6, K7⟩
      isplitl
      · isplitl [Hg0]; · iexact Hg0
        isplitl [Hg1]; · iexact Hg1
        isplitl [K0]; · iapply (held_whole c cc1_scratch0 D); iexact K0
        isplitl [K1]; · iapply (held_whole c cc1_scratch1 U); iexact K1
        isplitl [K2]; · iapply (held_whole c cc1_scratch2 UI); iexact K2
        isplitl [K3]; · iapply (held_whole c cc1_scratch3 N); iexact K3
        isplitl [K4]; · iapply (held_whole c cc1_scratch4 s.bv); iexact K4
        isplitl [K5]; · iapply (held_whole c cc1_scratch5 s.bi); iexact K5
        isplitl [K6]; · iapply (held_whole c cc1_scratch6 s.nv); iexact K6
        iapply (held_whole c cc1_scratch7 s.ni); iexact K7
      iempintro)
    (fun _ => 0) (cut 1) (fun _ => iprop(emp)) (A2 m) (fun c w => rfl)

/-- What rides beside the buffers between the items. -/
abbrev Rest3 (c : Dev nD) : sProp 𝕄G := iprop(Rest c ∗ emp ∗ emp)

/-- The transposes. -/
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (A1 m) Rest3

/-- The results' shapes. -/
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (A3 m) Rest3

/-- The program's items. -/
abbrev items : List (Seg (pcfgs (F := F)) adm (pd m) () defs₀ Variants.none L lv) :=
  [.region (reg0 m), .host (host1 m), .region (reg1 m), .host (host2 m)]

theorem arrs_sub0 : Pipeline.arrRefs (τ := τ) spec0 ⊆ Pipeline.ucRefs τ sig := Pipeline.arrRefs_sub_ucRefs spec0 (by decide)
theorem arrs_sub1 : Pipeline.arrRefs (τ := τ) spec1 ⊆ Pipeline.ucRefs τ sig := Pipeline.arrRefs_sub_ucRefs spec1 (by decide)

end Cert.KernelIdeal.Knn

end
-- ==== Proof.Main.lean ====
/- The whole program's run, and what every buffer outside the regions' own holds at its end. -/
module

public import proofs.«01_k».proof.Proof.Regs

@[expose] public section

set_option maxRecDepth 16384
set_option maxHeartbeats 4000000

noncomputable section

namespace Cert.KernelIdeal.Knn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

open Idealize.ShloMosaic.Pipeline (Dat Seg HostSeg RegionSeg)

variable (m : (ℓ : Loc nD τ sig) → Buf (Elt F) ℓ)

theorem pre0 (c : Dev nD) : iprop(StableHlo.held (c : Thread nD τ) (Pipeline.ucRefs τ sig) (A0 m c) ∗ Rest3 c) ⊢ (reg0 m).pre c := by
  unfold reg0
  exact Pipeline.RegionSeg.ofHeldIn_pre (pcs := pcfgs (F := F)) (a := adm) (pdats := pd m) (ι := ()) (defs₀ := defs₀) (𝒱₀ := Variants.none) (L := L) (lv := lv) (p := 0) (D := fun _ => 0) (W := A0 m)
    (X := fun _ => iprop(emp)) (Y := fun _ => iprop(emp)) (R := fun _ => iprop(emp)) arrs_sub0 c

theorem left0 (c : Dev nD) : (reg0 m).post c ⊢ iprop(StableHlo.held (c : Thread nD τ) (Pipeline.ucRefs τ sig) (Pipeline.afterRegion (pd m 0 c) (A0 m c))
    ∗ ((∃ Wd, owes (c : Thread nD τ) (0 : CellTallies nD τ sig Unit) Wd) ∗ emp ∗ emp)) := by
  unfold reg0
  exact Pipeline.RegionSeg.ofHeldIn_post arrs_sub0 c

theorem A1_eq (c : Dev nD) : A1 m c = Pipeline.afterRegion (pd m 0 c) (A0 m c) := rfl

theorem post0 (c : Dev nD) : (reg0 m).post c ⊢ iprop(StableHlo.held (c : Thread nD τ) (Pipeline.ucRefs τ sig) (A1 m c) ∗ Rest3 c) := by
  rw [A1_eq]
  exact left0 m c

theorem pre1 (c : Dev nD) : iprop(StableHlo.held (c : Thread nD τ) (Pipeline.ucRefs τ sig) (A2 m c) ∗ Rest3 c) ⊢ (reg1 m).pre c := by
  unfold reg1
  exact Pipeline.RegionSeg.ofHeldIn_pre (pcs := pcfgs (F := F)) (a := adm) (pdats := pd m) (ι := ()) (defs₀ := defs₀) (𝒱₀ := Variants.none) (L := L) (lv := lv) (p := 1) (D := fun _ => 0) (W := A2 m)
    (X := fun _ => iprop(emp)) (Y := fun _ => iprop(emp)) (R := fun _ => iprop(emp)) arrs_sub1 c

theorem left1 (c : Dev nD) : (reg1 m).post c ⊢ iprop(StableHlo.held (c : Thread nD τ) (Pipeline.ucRefs τ sig) (Pipeline.afterRegion (pd m 1 c) (A2 m c))
    ∗ ((∃ Wd, owes (c : Thread nD τ) (0 : CellTallies nD τ sig Unit) Wd) ∗ emp ∗ emp)) := by
  unfold reg1
  exact Pipeline.RegionSeg.ofHeldIn_post arrs_sub1 c

theorem A3_eq (c : Dev nD) : A3 m c = Pipeline.afterRegion (pd m 1 c) (A2 m c) := rfl

theorem post1 (c : Dev nD) : (reg1 m).post c ⊢ iprop(StableHlo.held (c : Thread nD τ) (Pipeline.ucRefs τ sig) (A3 m c) ∗ Rest3 c) := by
  rw [A3_eq]
  exact left1 m c

set_option backward.isDefEq.respectTransparency.types false in
/-- Every execution ends, with every buffer outside the regions' own at its last contents and every counter at zero. -/
theorem run_main (ρ : Dev nD → PrngReg) :
    θ_run defs (onTc (τ := τ) (main (F := F))) ⟨m, fun _ => 0, ρ⟩ (fun r => (∀ c : Dev nD, ∀ b ∈ Pipeline.ucRefs τ sig, r.2.mem (c, b) = A4 m c b)
      ∧ r.2.sem = fun _ => 0) := by
  refine Pipeline.θ_run_regions_kit_dev_sems (pcfgs (F := F)) adm (pd m) () cellOf_inj emb₁ defs₀ Variants.none L lv m ρ main (fun _ => items m)
    (fun c Q => by rw [main_segs adm (pd m) () Variants.none L lv (host1 m) (host2 m) (reg0 m) (reg1 m) rfl rfl c])
    (fun c => by simp only [Seg.pipes_host, Seg.pipes_region, Seg.pipes_nil]; decide)
    (fun _ => 0) (fun g h => if_neg h) (fun _ => iprop(emp)) (Rounds.initOf (Pipeline.cells cfgs cellOf_inj) (Pipeline.launchToks cfgs cellOf_inj)) ?_
    (T₀ := fun c => iprop(StableHlo.held (c : Thread nD τ) (Pipeline.ucRefs τ sig) (A0 m c) ∗ Rest3 c))
    (Tₙ := fun c => StableHlo.held (c : Thread nD τ) (Pipeline.ucRefs τ sig) (A4 m c))
    (hch := fun c => ⟨pre0 m c, post0 m c, pre1 m c, post1 m c, ?_⟩)
    (hinit := ?_) (QY := fun c s => ∀ b ∈ Pipeline.ucRefs τ sig, s.mem (c, b) = A4 m c b)
    (hfin := fun c s' => ?_) (hQ := fun _ h hz => ⟨h, funext fun g => hz g (.inr (regions_no_unscoped g.2))⟩)
  · iintro Hu
    imodintro
    isplitl [Hu]
    · iapply (show (ownU _ : sProp 𝕄G) ⊢ BI.own (emb₁ (Rounds.initOf (Pipeline.cells cfgs cellOf_inj) (Pipeline.launchToks cfgs cellOf_inj))) from .rfl)
      iexact Hu
    iapply (show (BI.emp : sProp 𝕄G) ⊢ bigSep Finset.univ (fun _ : Dev nD => (BI.emp : sProp 𝕄G)) from by rw [BI.bigSep_emp_const])
    iempintro
  · show iprop(StableHlo.held (c : Thread nD τ) (Pipeline.ucRefs τ sig) (A4 m c) ∗ Rest3 c) ⊢ _
    iintro ⟨Hh, HR, -, -⟩
    isplitl [Hh]; · iexact Hh
    iexact HR
  · refine Pipeline.initEach L lv fun c => ?_
    rw [show unscopedBufs c (fun b => m ((c : Thread nD τ).loc b)) = StableHlo.held (c : Thread nD τ) (Pipeline.ucRefs τ sig) (A0 m c) from Pipeline.unscopedBufs_held c (A0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (A4 m c) s') $$ [Hh HSI]
    · isplitl [Hh] <;> iassumption
    icases Hr with ⟨%h, HSI⟩
    imodintro
    isplitr
    · ipureintro
      exact h
    · iexact HSI

end Cert.KernelIdeal.Knn

end
-- ==== Proof.Same.lean ====
/- The compiled program and the idealized one are one text: what holds of the second read at the machine's
   own floats holds of the first. -/
module

public import proofs.«01_k».proof.Defs
public import proofs.«01_k».proof.Proof.Gen.Kernel
public import proofs.«01_k».proof.Proof.Gen.KernelIdeal

@[expose] public section

set_option maxRecDepth 65536
set_option maxHeartbeats 4000000

noncomputable section

namespace Cert.Proof

open Idealize.ShloMosaic Idealize.SL.Sem

/-- The frame of the kernel's text, its floats read as `F`. -/
def FrameAt (F : FTy → Type) [FloatOps F] [hKernelIdeal : Cert.KernelIdeal.Facts] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

theorem norms_same : @Cert.Kernel.cc0__norms_body Bits _ Cert.Kernel.Gen.facts = @Cert.KernelIdeal.cc0__norms_body Bits _ Cert.KernelIdeal.Gen.facts := rfl

theorem knn_same : @Cert.Kernel.cc1__knn_body Bits _ Cert.Kernel.Gen.facts = @Cert.KernelIdeal.cc1__knn_body Bits _ Cert.KernelIdeal.Gen.facts := rfl

/-- The two body tables are one. -/
theorem defs₀_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun x => ?_)
  funext y
  match x, y with
  | 0, y => rfl
  | 1, y => rfl

/-- The compiled program's frame from the text's at the machine's floats. -/
theorem frame_same (h : FrameAt Bits (hKernelIdeal := Cert.KernelIdeal.Gen.facts)) : Cert.quiescent_Kernel (hKernel := Cert.Kernel.Gen.facts) := by
  intro m g _
  have := h m g
  unfold Cert.KernelIdeal.defs at this
  rw [← defs₀_same] at this
  exact this

end Cert.Proof

end
-- ==== Proof.Kept.lean ====
/- The argument array through the whole program, and the frames. -/
module

public import proofs.«01_k».proof.Proof.Main
public import proofs.«01_k».proof.Proof.Same

@[expose] public section

set_option maxRecDepth 16384
set_option maxHeartbeats 400000

noncomputable section

namespace Cert.KernelIdeal.Knn

open Idealize.ShloMosaic Idealize.ShloMosaic.TcCoe Idealize.SL Idealize.SL.Sem Cert.KernelIdeal.Gen

variable {F : FTy → Type} [FloatOps F]
variable (m : (ℓ : Loc nD τ sig) → Buf (Elt F) ℓ)

theorem A1_arg (c : Dev nD) : A1 m c (Proc.devRef .tc main_arg0) = A0 m c (Proc.devRef .tc main_arg0) :=
  (Pipeline.afterRegion_arr (dat0 (A0 m c) c) (A0 m c) launch0.win.arr_inj 0).trans ((dat0 (A0 m c) c).arrAt_in 0 rfl _)

theorem A2_arg (c : Dev nD) : A2 m c (Proc.devRef .tc main_arg0) = A1 m c (Proc.devRef .tc main_arg0) :=
  StableHlo.after_of_writes_sub hostOps1 _ hostOps1_writes (r := main_arg0) (by decide)

theorem A3_arg (c : Dev nD) : A3 m c (Proc.devRef .tc main_arg0) = A2 m c (Proc.devRef .tc main_arg0) :=
  (Pipeline.afterRegion_arr (dat1 (A2 m c) c) (A2 m c) launch1.win.arr_inj 0).trans ((dat1 (A2 m c) c).arrAt_in 0 rfl _)

theorem A4_arg (c : Dev nD) : A4 m c (Proc.devRef .tc main_arg0) = A3 m c (Proc.devRef .tc main_arg0) :=
  StableHlo.after_of_writes_sub hostOps2 _ hostOps2_writes (r := main_arg0) (by decide)

/-- The argument array ends as it began. -/
theorem A4_kept (c : Dev nD) : A4 m c (Proc.devRef .tc main_arg0) = m ((c : Thread nD τ).loc main_arg0) :=
  (A4_arg m c).trans ((A3_arg m c).trans ((A2_arg m c).trans (A1_arg m c)))

end Cert.KernelIdeal.Knn

namespace Cert.Proof

open Idealize.ShloMosaic Idealize.SL.Sem Cert.KernelIdeal.Knn

theorem frame_at (F : FTy → Type) [FloatOps F] : FrameAt F (hKernelIdeal := Cert.KernelIdeal.Gen.facts) := fun m g =>
  (θ_run _ _ _).mono (fun _ h => ⟨fun c => (h.1 c _ (Finset.mem_filter.mpr ⟨StableHlo.devRef_mem_tcRefs Cert.KernelIdeal.main_arg0, by decide⟩)).trans
    (A4_kept m c), h.2⟩) (run_main m g)

end Cert.Proof

end
-- ==== Proof.Keys.lean ====
/- Keys: a value and an index, ordered by the value and then by the index. The sixteen least of a finite set of
   keys, one by one, from a set that is taken in by blocks; and the merging of sorted short lists that forgets
   nothing when little was finite. -/
module

public import Idealize.ShloMosaic.PureOps.Ideal
public import Mathlib.Data.Prod.Lex
public import Mathlib.Data.EReal.Basic
public import Mathlib.Algebra.BigOperators.Fin
public import Mathlib.Algebra.Order.BigOperators.Group.Finset
public import Mathlib.Data.Finset.Sort

@[expose] public section

noncomputable section

namespace Cert.KernelIdeal.Knn

/-- A value and an index, the value compared first. -/
abbrev Key := EReal ×ₗ ℤ

def key (v : EReal) (x : ℤ) : Key := toLex (v, x)
/-- A key's value. -/
def Key.val (k : Key) : EReal := (ofLex k).1
/-- A key's index. -/
def Key.idx (k : Key) : ℤ := (ofLex k).2

@[simp] theorem val_key (v : EReal) (x : ℤ) : Key.val (key v x) = v := rfl
@[simp] theorem idx_key (v : EReal) (x : ℤ) : Key.idx (key v x) = x := rfl
theorem key_lt {v w : EReal} {x y : ℤ} : key v x < key w y ↔ v < w ∨ v = w ∧ x < y := Prod.Lex.lt_iff
theorem key_ext {a b : Key} (h : a.val = b.val) (h' : a.idx = b.idx) : a = b :=
  show toLex (ofLex a) = toLex (ofLex b) from congrArg toLex (Prod.ext h h')
theorem lt_iff {a b : Key} : a < b ↔ a.val < b.val ∨ a.val = b.val ∧ a.idx < b.idx := Prod.Lex.lt_iff

/-! ## The `t`-th least -/

/-- `k` is in `D` and has `t` keys of `D` before it. -/
def IsNth (D : Finset Key) (t : ℕ) (k : Key) : Prop := k ∈ D ∧ (D.filter (· < k)).card = t

theorem card_below_lt {D : Finset Key} {a b : Key} (ha : a ∈ D) (h : a < b) : (D.filter (· < a)).card < (D.filter (· < b)).card := by
  refine Finset.card_lt_card ⟨fun x hx => ?_, fun hs => ?_⟩
  · rw [Finset.mem_filter] at hx ⊢
    exact ⟨hx.1, hx.2.trans h⟩
  · have := hs (Finset.mem_filter.mpr ⟨ha, h⟩)
    exact lt_irrefl _ (Finset.mem_filter.mp this).2

theorem IsNth.unique {D : Finset Key} {t : ℕ} {a b : Key} (ha : IsNth D t a) (hb : IsNth D t b) : a = b := by
  rcases lt_trichotomy a b with h | h | h
  · have := card_below_lt ha.1 h
    rw [ha.2, hb.2] at this
    exact absurd this (lt_irrefl _)
  · exact h
  · have := card_below_lt hb.1 h
    rw [ha.2, hb.2] at this
    exact absurd this (lt_irrefl _)

theorem IsNth.lt_of_lt {D : Finset Key} {s t : ℕ} {a b : Key} (ha : IsNth D s a) (hb : b ∈ D) (hb' : (D.filter (· < b)).card = t) (h : s < t) : a < b := by
  by_contra hn
  rcases (not_lt.mp hn).lt_or_eq with h' | h'
  · have := card_below_lt hb h'
    rw [ha.2, hb'] at this
    omega
  · subst h'
    have := ha.2
    omega

/-- What is left out has sixteen kept before it: the sixteen least are the kept ones'. -/
theorem IsNth.of_sub {C D : Finset Key} {t : ℕ} {k : Key} (ht : t < 16) (hCD : C ⊆ D) (h : ∀ e ∈ D, e ∉ C → 16 ≤ (C.filter (· < e)).card)
    (hk : IsNth C t k) : IsNth D t k := by
  refine ⟨hCD hk.1, ?_⟩
  rw [← hk.2]
  refine congrArg Finset.card (Finset.ext fun e => ?_)
  rw [Finset.mem_filter, Finset.mem_filter]
  refine ⟨fun he => ⟨?_, he.2⟩, fun he => ⟨hCD he.1, he.2⟩⟩
  by_contra hn
  have h1 := h e he.1 hn
  have h2 : (C.filter (· < e)).card ≤ (C.filter (· < k)).card := Finset.card_le_card fun x hx => by
    rw [Finset.mem_filter] at hx ⊢
    exact ⟨hx.1, hx.2.trans he.2⟩
  rw [hk.2] at h2
  omega

/-! ## Bags of finite keys -/

/-- The key, if its value is finite above. -/
def live (k : Key) : Multiset Key := if k.val < ⊤ then {k} else 0

theorem live_of_lt {k : Key} (h : k.val < ⊤) : live k = {k} := if_pos h
theorem live_top {k : Key} (h : k.val = ⊤) : live k = 0 := if_neg (by rw [h]; exact lt_irrefl _)
theorem mem_live {k e : Key} : e ∈ live k ↔ k.val < ⊤ ∧ e = k := by
  unfold live
  split <;> simp_all

/-- The finite keys of a family. -/
def bag {ι : Type} [Fintype ι] (v : ι → EReal) (x : ι → ℤ) : Multiset Key := ∑ p, live (key (v p) (x p))

theorem mem_bag {ι : Type} [Fintype ι] {v : ι → EReal} {x : ι → ℤ} {e : Key} : e ∈ bag v x ↔ ∃ p, v p < ⊤ ∧ e = key (v p) (x p) := by
  unfold bag
  simp [Multiset.mem_sum, mem_live]

/-- The values cleared at one index. -/
def clear {ι : Type} (v : ι → EReal) (x : ι → ℤ) (a : ℤ) : ι → EReal := fun p => if x p = a then ⊤ else v p

theorem bag_clear_le {ι : Type} [Fintype ι] (v : ι → EReal) (x : ι → ℤ) (a : ℤ) : bag (clear v x a) x ≤ bag v x := by
  refine Finset.sum_le_sum fun p _ => ?_
  unfold clear
  split
  · rw [live_top (by rfl)]
    exact Multiset.zero_le _
  · exact le_refl _

/-! ## One pass of the selection -/

/-- `m` is the least value, and `a` the least index at which it is. -/
structure IsBest {ι : Type} (v : ι → EReal) (x : ι → ℤ) (m : EReal) (a : ℤ) : Prop where
  le : ∀ p, m ≤ v p
  mem : (∃ p, v p < ⊤) → ∃ p, v p = m ∧ x p = a
  least : ∀ p, v p < ⊤ → v p = m → a ≤ x p

/-- The bag is what is left of `C` after its `t` least. -/
def Left (C : Finset Key) (t : ℕ) (L : Multiset Key) : Prop :=
  ∃ S : Finset Key, L = S.val ∧ S ⊆ C ∧ (C \ S).card = t ∧ ∀ a ∈ C, a ∉ S → ∀ b ∈ S, a < b

theorem Left.zero (C : Finset Key) : Left C 0 C.val :=
  ⟨C, rfl, Finset.Subset.refl _, by simp, fun a h h' => absurd h h'⟩

theorem pass {ι : Type} [Fintype ι] {v : ι → EReal} {x : ι → ℤ} {C : Finset Key} {t : ℕ} {m : EReal} {a : ℤ}
    (hC : ∀ k ∈ C, ∀ l ∈ C, k.idx = l.idx → k = l) (ht : t < C.card) (hL : Left C t (bag v x)) (hb : (∃ p, v p < ⊤) → IsBest v x m a) :
    IsNth C t (key m a) ∧ Left C (t + 1) (bag (clear v x a) x) := by
  obtain ⟨S, hS, hsub, hcard, hlt⟩ := hL
  have mem : ∀ e, e ∈ S ↔ ∃ p, v p < ⊤ ∧ e = key (v p) (x p) := fun e => by
    rw [← Finset.mem_val, ← hS, mem_bag]
  have hne : S.Nonempty := by
    rw [Finset.nonempty_iff_ne_empty]
    rintro rfl
    rw [Finset.sdiff_empty] at hcard
    omega
  obtain ⟨e₀, he₀⟩ := hne
  obtain ⟨p₀, hp₀, -⟩ := (mem e₀).mp he₀
  have hb := hb ⟨p₀, hp₀⟩
  obtain ⟨q, hq, hqa⟩ := hb.mem ⟨p₀, hp₀⟩
  have hm : m < ⊤ := lt_of_le_of_lt (hb.le p₀) hp₀
  have hk : key m a ∈ S := (mem _).mpr ⟨q, by rw [hq]; exact hm, by rw [hq, hqa]⟩
  have hmin : ∀ e ∈ S, key m a ≤ e := by
    intro e he
    obtain ⟨p, hp, rfl⟩ := (mem e).mp he
    by_contra hn
    rcases key_lt.mp (not_le.mp hn) with h | ⟨h, h'⟩
    · exact absurd (hb.le p) (not_le.mpr h)
    · exact absurd (hb.least p hp h) (not_le.mpr h')
  have hdiff : C.filter (· < key m a) = C \ S := by
    ext e
    rw [Finset.mem_filter, Finset.mem_sdiff]
    refine ⟨fun h => ⟨h.1, fun he => absurd (hmin e he) (not_le.mpr h.2)⟩, fun h => ⟨h.1, hlt e h.1 h.2 _ hk⟩⟩
  refine ⟨⟨hsub hk, by rw [hdiff, hcard]⟩, S.erase (key m a), ?_, (Finset.erase_subset _ _).trans hsub, ?_, ?_⟩
  · have nd : (bag (clear v x a) x).Nodup := Multiset.nodup_of_le (bag_clear_le v x a) (by rw [hS]; exact S.nodup)
    refine (Multiset.Nodup.ext nd (Finset.nodup _)).mpr fun e => ?_
    rw [Finset.mem_val, Finset.mem_erase, mem_bag]
    constructor
    · rintro ⟨p, hp, rfl⟩
      unfold clear at hp ⊢
      by_cases h : x p = a
      · rw [if_pos h] at hp
        exact absurd hp (lt_irrefl _)
      · rw [if_neg h] at hp ⊢
        exact ⟨fun e => h (congrArg Key.idx e), (mem _).mpr ⟨p, hp, rfl⟩⟩
    · rintro ⟨hne, he⟩
      obtain ⟨p, hp, rfl⟩ := (mem e).mp he
      have h : x p ≠ a := fun h => hne (hC _ (hsub he) _ (hsub hk) h)
      refine ⟨p, ?_, ?_⟩ <;> unfold clear <;> rw [if_neg h]
      exact hp
  · rw [show C \ S.erase (key m a) = insert (key m a) (C \ S) from ?_, Finset.card_insert_of_notMem, hcard]
    · simp [hk]
    · ext e
      simp only [Finset.mem_sdiff, Finset.mem_erase, Finset.mem_insert]
      constructor
      · rintro ⟨h1, h2⟩
        by_cases h : e = key m a
        · exact .inl h
        · exact .inr ⟨h1, fun h3 => h2 ⟨h, h3⟩⟩
      · rintro (rfl | ⟨h1, h2⟩)
        · exact ⟨hsub hk, fun h => h.1 rfl⟩
        · exact ⟨h1, fun h => h2 h.2⟩
  · intro c hc hcs b hb'
    obtain ⟨hbne, hbS⟩ := Finset.mem_erase.mp hb'
    by_cases h : c ∈ S
    · have hcm : c = key m a := by
        by_contra hne
        exact hcs (Finset.mem_erase.mpr ⟨hne, h⟩)
      rw [hcm]
      exact lt_of_le_of_ne (hmin b hbS) (Ne.symm hbne)
    · exact hlt c hc h b hbS

/-! ## A row of distances taken in by blocks -/

/-- The keys of the first `n` columns. -/
def cols (d : ℕ → EReal) (n : ℕ) : Finset Key := (Finset.range n).image fun c => key (d c) c

theorem mem_cols {d : ℕ → EReal} {n : ℕ} {e : Key} : e ∈ cols d n ↔ ∃ c < n, key (d c) c = e := by
  simp [cols]

theorem cols_inj {d : ℕ → EReal} {n : ℕ} : ∀ k ∈ cols d n, ∀ l ∈ cols d n, k.idx = l.idx → k = l := by
  intro k hk l hl h
  obtain ⟨c, -, rfl⟩ := mem_cols.mp hk
  obtain ⟨c', -, rfl⟩ := mem_cols.mp hl
  have h' : (c : ℤ) = (c' : ℤ) := h
  have : c = c' := by omega
  rw [this]

theorem card_cols (d : ℕ → EReal) (n : ℕ) : (cols d n).card = n := by
  unfold cols
  rw [Finset.card_image_of_injective, Finset.card_range]
  intro a b h
  have h' : (a : ℤ) = (b : ℤ) := congrArg Key.idx h
  omega

/-- The lists hold the sixteen least of the first `n` columns, in order, and nothing else. -/
structure Holds (d : ℕ → EReal) (n : ℕ) (bv : Fin 128 → EReal) (bi : Fin 128 → ℤ) : Prop where
  nth : ∀ p : Fin 128, p.val < 16 → 0 < n → IsNth (cols d n) p.val (key (bv p) (bi p))
  top : ∀ p : Fin 128, 16 ≤ p.val ∨ n = 0 → bv p = ⊤

theorem Holds.lt {d : ℕ → EReal} {n : ℕ} {bv : Fin 128 → EReal} {bi : Fin 128 → ℤ} (hd : ∀ c, d c < ⊤) (H : Holds d n bv bi)
    (p : Fin 128) (hp : p.val < 16) (hn : 0 < n) : bv p < ⊤ ∧ 0 ≤ bi p ∧ bi p < n := by
  obtain ⟨c, hc, h⟩ := mem_cols.mp (H.nth p hp hn).1
  have h1 : d c = bv p := congrArg Key.val h
  have h2 : (c : ℤ) = bi p := congrArg Key.idx h
  exact ⟨h1 ▸ hd c, by omega, by omega⟩

/-- The finite keys of the lists. -/
def kept (n : ℕ) (bv : Fin 128 → EReal) (bi : Fin 128 → ℤ) : Finset Key :=
  if 0 < n then (Finset.univ.filter fun p : Fin 128 => p.val < 16).image fun p => key (bv p) (bi p) else ∅

theorem Holds.inj {d : ℕ → EReal} {n : ℕ} {bv : Fin 128 → EReal} {bi : Fin 128 → ℤ} (H : Holds d n bv bi) (hn : 0 < n) :
    Set.InjOn (fun p : Fin 128 => key (bv p) (bi p)) (Finset.univ.filter fun p : Fin 128 => p.val < 16 : Finset (Fin 128)) := by
  intro p hp q hq h
  have hp : p.val < 16 := by simpa using hp
  have hq : q.val < 16 := by simpa using hq
  have h1 := (H.nth p hp hn).2
  have h2 := (H.nth q hq hn).2
  have h : key (bv p) (bi p) = key (bv q) (bi q) := h
  rw [h, h2] at h1
  exact Fin.ext h1.symm

theorem Holds.bag_eq {d : ℕ → EReal} {n : ℕ} {bv : Fin 128 → EReal} {bi : Fin 128 → ℤ} (hd : ∀ c, d c < ⊤) (H : Holds d n bv bi) :
    bag bv bi = (kept n bv bi).val := by
  unfold bag kept
  split
  case isTrue hn =>
    rw [← Finset.sum_multiset_singleton, Finset.sum_image (H.inj hn), Finset.sum_filter]
    refine Finset.sum_congr rfl fun p _ => ?_
    split
    · exact live_of_lt (H.lt hd p ‹_› hn).1
    · exact live_top (H.top p (.inl (by omega)))
  case isFalse hn =>
    exact Finset.sum_eq_zero fun p _ => live_top (H.top p (.inr (by omega)))

/-- The candidates of a block: its columns that are kept, with the lists. -/
theorem Holds.candidates {d : ℕ → EReal} {n W : ℕ} {bv : Fin 128 → EReal} {bi : Fin 128 → ℤ} (hd : ∀ c, d c < ⊤) (H : Holds d n bv bi) (hn : n = 0 ∨ 16 ≤ n)
    (hW : 16 ≤ W) (keep : ℕ → Prop) [DecidablePred keep] (hk : ∀ c < W, d (n + c) < bv 15 → keep c) {M : Multiset Key}
    (hM : M = (∑ c ∈ Finset.range W, if keep c then {key (d (n + c)) ((n + c : ℕ) : ℤ)} else 0) + bag bv bi) :
    ∃ C : Finset Key, M = C.val ∧ C ⊆ cols d (n + W) ∧ (∀ e ∈ cols d (n + W), e ∉ C → 16 ≤ (C.filter (· < e)).card) ∧ 16 ≤ C.card := by
  have inj : Set.InjOn (fun c : ℕ => key (d (n + c)) ((n + c : ℕ) : ℤ)) ((Finset.range W).filter keep : Finset ℕ) := by
    intro a _ b _ h
    have : ((n + a : ℕ) : ℤ) = ((n + b : ℕ) : ℤ) := congrArg Key.idx h
    omega
  set A : Finset Key := ((Finset.range W).filter keep).image fun c : ℕ => key (d (n + c)) ((n + c : ℕ) : ℤ) with hA
  have memA : ∀ e, e ∈ A ↔ ∃ c, (c < W ∧ keep c) ∧ key (d (n + c)) ((n + c : ℕ) : ℤ) = e := fun e => by
    simp only [hA, Finset.mem_image, Finset.mem_filter, Finset.mem_range]
  have memB : ∀ e, e ∈ kept n bv bi ↔ 0 < n ∧ ∃ p : Fin 128, p.val < 16 ∧ key (bv p) (bi p) = e := fun e => by
    unfold kept
    split <;> simp_all
  have hdis : Disjoint A (kept n bv bi) := by
    rw [Finset.disjoint_left]
    intro e h1 h2
    obtain ⟨c, -, rfl⟩ := (memA e).mp h1
    obtain ⟨hn, p, hp, h⟩ := (memB _).mp h2
    have h3 : bi p = ((n + c : ℕ) : ℤ) := congrArg Key.idx h
    have := (H.lt hd p hp hn).2.2
    omega
  have sub : A.disjUnion (kept n bv bi) hdis ⊆ cols d (n + W) := by
    intro e he
    rcases Finset.mem_disjUnion.mp he with he | he
    · obtain ⟨c, hc, rfl⟩ := (memA e).mp he
      exact mem_cols.mpr ⟨n + c, by omega, rfl⟩
    · obtain ⟨hn, p, hp, rfl⟩ := (memB e).mp he
      obtain ⟨c, hc, h⟩ := mem_cols.mp (H.nth p hp hn).1
      exact mem_cols.mpr ⟨c, by omega, h⟩
  have low : ∀ e ∈ cols d (n + W), e ∉ A.disjUnion (kept n bv bi) hdis → 16 ≤ ((A.disjUnion (kept n bv bi) hdis).filter (· < e)).card := by
    intro e he hne
    rw [Finset.mem_disjUnion, not_or] at hne
    obtain ⟨c, hc, rfl⟩ := mem_cols.mp he
    have main : 0 < n ∧ ∀ p : Fin 128, p.val < 16 → key (bv p) (bi p) < key (d c) c := by
      by_cases hcn : c < n
      · have hn : 0 < n := by omega
        refine ⟨hn, fun p hp => ?_⟩
        have hce : key (d c) c ∈ cols d n := mem_cols.mpr ⟨c, hcn, rfl⟩
        refine (H.nth p hp hn).lt_of_lt hce rfl (lt_of_lt_of_le hp ?_)
        by_contra hlt
        set t := ((cols d n).filter (· < key (d c) c)).card with ht
        have hlt : t < 16 := by omega
        have h1 : IsNth (cols d n) t (key (d c) c) := ⟨hce, ht.symm⟩
        have h2 := H.nth ⟨t, by omega⟩ hlt hn
        exact hne.2 ((memB _).mpr ⟨hn, ⟨t, by omega⟩, hlt, h2.unique h1⟩)
      · obtain ⟨b, rfl⟩ : ∃ b, c = n + b := ⟨c - n, by omega⟩
        have hnk : ¬ keep b := fun h => hne.1 ((memA _).mpr ⟨b, ⟨by omega, h⟩, rfl⟩)
        have hge : bv 15 ≤ d (n + b) := not_lt.mp fun h => hnk (hk b (by omega) h)
        have hn : 0 < n := by
          by_contra h0
          rw [H.top 15 (.inr (by omega)), top_le_iff] at hge
          exact absurd (hd (n + b)) (by rw [hge]; exact lt_irrefl _)
        refine ⟨hn, fun p hp => ?_⟩
        have hle : bv p ≤ bv 15 := by
          by_cases h15 : p.val = 15
          · rw [show p = 15 from Fin.ext h15]
          · have := (H.nth p hp hn).lt_of_lt (H.nth 15 (by decide) hn).1 (H.nth 15 (by decide) hn).2 (by show p.val < 15; omega)
            rcases key_lt.mp this with h | h
            · exact h.le
            · exact h.1.le
        have hi := (H.lt hd p hp hn).2.2
        rcases (hle.trans hge).lt_or_eq with h | h
        · exact key_lt.mpr (.inl h)
        · exact key_lt.mpr (.inr ⟨h, by push_cast; omega⟩)
    obtain ⟨hn, hlt⟩ := main
    have hcard : (kept n bv bi).card = 16 := by
      unfold kept
      rw [if_pos hn, Finset.card_image_of_injOn (H.inj hn)]
      decide
    rw [← hcard]
    refine Finset.card_le_card fun x hx => Finset.mem_filter.mpr ⟨Finset.mem_disjUnion.mpr (.inr hx), ?_⟩
    obtain ⟨-, p, hp, rfl⟩ := (memB x).mp hx
    exact hlt p hp
  refine ⟨A.disjUnion (kept n bv bi) hdis, ?_, sub, low, ?_⟩
  · rw [hM, H.bag_eq hd, ← Finset.sum_filter]
    refine congrArg (· + (kept n bv bi).val) ?_
    rw [hA, ← Finset.sum_multiset_singleton, Finset.sum_image inj]
  · by_cases h : ∃ e ∈ cols d (n + W), e ∉ A.disjUnion (kept n bv bi) hdis
    · obtain ⟨e, he, hne⟩ := h
      exact (low e he hne).trans (Finset.card_le_card (Finset.filter_subset _ _))
    · push Not at h
      have := Finset.card_le_card (show cols d (n + W) ⊆ _ from h)
      rw [card_cols] at this
      omega

end Cert.KernelIdeal.Knn

end
-- ==== Proof.Merge.lean ====
/- Merging sorted short lists of keys by their values: nothing finite is forgotten when at most three keys were. -/
module

public import proofs.«01_k».proof.Proof.Keys
public import Mathlib.Tactic.Abel

@[expose] public section

noncomputable section

namespace Cert.KernelIdeal.Knn

/-- The lesser of two keys by value, the first on a tie. -/
def klo (a b : Key) : Key := if a.val ≤ b.val then a else b
/-- The other one. -/
def khi (a b : Key) : Key := if a.val ≤ b.val then b else a

theorem val_klo (a b : Key) : (klo a b).val = min a.val b.val := by
  unfold klo
  split
  · rw [min_eq_left ‹_›]
  · rw [min_eq_right (not_le.mp ‹_›).le]

theorem val_khi (a b : Key) : (khi a b).val = max a.val b.val := by
  unfold khi
  split
  · rw [max_eq_right ‹_›]
  · rw [max_eq_left (not_le.mp ‹_›).le]

theorem live_pair (a b : Key) : live (klo a b) + live (khi a b) = live a + live b := by
  unfold klo khi
  split
  · rfl
  · exact add_comm _ _

theorem card_live_of {k e : Key} (h : k.val ≤ e.val) (he : e.val < ⊤) : (live k).card = 1 := by
  rw [live_of_lt (lt_of_le_of_lt h he)]
  rfl

/-- Above three keys, with at most three of all finite: not finite. -/
theorem dead {a b c e : Key} {R : Multiset Key} (h1 : a.val ≤ b.val) (h2 : b.val ≤ c.val) (h3 : c.val ≤ e.val)
    (h : (live a + live b + live c + live e + R).card ≤ 3) : live e = 0 := by
  by_cases he : e.val < ⊤
  · rw [Multiset.card_add, Multiset.card_add, Multiset.card_add, Multiset.card_add, card_live_of h3 he, card_live_of (h2.trans h3) he,
      card_live_of (h1.trans (h2.trans h3)) he, card_live_of (le_refl _) he] at h
    omega
  · exact live_top (not_lt_top_iff.mp he)

/-- Three keys in order, which are the finite ones of `M` if those are at most three. -/
structure Rep (a b c : Key) (M : Multiset Key) : Prop where
  ab : a.val ≤ b.val
  bc : b.val ≤ c.val
  eq : M.card ≤ 3 → live a + live b + live c = M

theorem rep22 (p q r s : Key) :
    Rep (klo (klo p q) (klo r s)) (klo (khi (klo p q) (klo r s)) (klo (khi p q) (khi r s))) (khi (khi (klo p q) (klo r s)) (klo (khi p q) (khi r s)))
      (live p + live q + (live r + live s)) := by
  have e1 := live_pair p q
  have e2 := live_pair r s
  have l1 : (klo p q).val ≤ (khi p q).val := by rw [val_klo, val_khi]; exact min_le_max
  have l2 : (klo r s).val ≤ (khi r s).val := by rw [val_klo, val_khi]; exact min_le_max
  rw [← e1, ← e2]
  generalize klo p q = a at *
  generalize khi p q = b at *
  generalize klo r s = c at *
  generalize khi r s = d at *
  have e3 := live_pair a c
  have e4 := live_pair b d
  have e5 := live_pair (khi a c) (klo b d)
  have o1 : (klo a c).val ≤ (klo (khi a c) (klo b d)).val := by
    simp only [val_klo, val_khi]
    exact le_min min_le_max (min_le_min l1 l2)
  have o2 : (klo (khi a c) (klo b d)).val ≤ (khi (khi a c) (klo b d)).val := by
    rw [val_klo (khi a c), val_khi (khi a c)]; exact min_le_max
  have o3 : (khi (khi a c) (klo b d)).val ≤ (khi b d).val := by
    simp only [val_klo, val_khi]
    exact max_le (max_le_max l1 l2) min_le_max
  have tot : live (klo a c) + live (klo (khi a c) (klo b d)) + live (khi (khi a c) (klo b d)) + live (khi b d) = live a + live b + (live c + live d) := by
    calc _ = live (klo a c) + (live (klo (khi a c) (klo b d)) + live (khi (khi a c) (klo b d))) + live (khi b d) := by abel
      _ = (live (klo a c) + live (khi a c)) + (live (klo b d) + live (khi b d)) := by rw [e5]; abel
      _ = _ := by rw [e3, e4]; abel
  refine ⟨o1, o2, fun h => ?_⟩
  rw [← tot] at h
  rw [← tot, dead o1 o2 o3 (R := 0) (by rw [add_zero]; exact h), add_zero]

theorem rep33 {a b c a' b' c' : Key} {M N : Multiset Key} (P : Rep a b c M) (Q : Rep a' b' c' N) :
    Rep (klo a a') (klo (khi a a') (klo b b')) (klo (khi (khi a a') (klo b b')) (klo c c')) (M + N) := by
  have e1 := live_pair a a'
  have e2 := live_pair b b'
  have e3 := live_pair c c'
  have e4 := live_pair (khi a a') (klo b b')
  have e5 := live_pair (khi (khi a a') (klo b b')) (klo c c')
  have o1 : (klo a a').val ≤ (klo (khi a a') (klo b b')).val := by
    simp only [val_klo, val_khi]
    exact le_min min_le_max (min_le_min P.ab Q.ab)
  have o2 : (klo (khi a a') (klo b b')).val ≤ (klo (khi (khi a a') (klo b b')) (klo c c')).val := by
    simp only [val_klo, val_khi]
    exact le_min min_le_max ((min_le_right _ _).trans (min_le_min P.bc Q.bc))
  have o3 : (klo (khi (khi a a') (klo b b')) (klo c c')).val ≤ (khi b b').val := by
    simp only [val_klo, val_khi]
    exact (min_le_left _ _).trans (max_le (max_le_max P.ab Q.ab) min_le_max)
  have o4 : (klo (khi (khi a a') (klo b b')) (klo c c')).val ≤ (khi (khi (khi a a') (klo b b')) (klo c c')).val := by
    rw [val_klo (khi (khi a a') (klo b b')), val_khi (khi (khi a a') (klo b b'))]; exact min_le_max
  have o5 : (klo (khi (khi a a') (klo b b')) (klo c c')).val ≤ (khi c c').val := by
    rw [val_klo (khi (khi a a') (klo b b')), val_klo c, val_khi c]
    exact (min_le_right _ _).trans min_le_max
  refine ⟨o1, o2, fun h => ?_⟩
  have hM := P.eq (by rw [Multiset.card_add] at h; omega)
  have hN := Q.eq (by rw [Multiset.card_add] at h; omega)
  have tot : live (klo a a') + live (klo (khi a a') (klo b b')) + live (klo (khi (khi a a') (klo b b')) (klo c c'))
      + live (khi b b') + live (khi (khi (khi a a') (klo b b')) (klo c c')) + live (khi c c') = M + N := by
    calc _ = live (klo a a') + live (klo (khi a a') (klo b b')) + (live (klo (khi (khi a a') (klo b b')) (klo c c'))
          + live (khi (khi (khi a a') (klo b b')) (klo c c'))) + live (khi b b') + live (khi c c') := by abel
      _ = live (klo a a') + (live (klo (khi a a') (klo b b')) + live (khi (khi a a') (klo b b'))) + live (khi b b') + (live (klo c c') + live (khi c c')) := by
        rw [e5]; abel
      _ = (live (klo a a') + live (khi a a')) + (live (klo b b') + live (khi b b')) + (live (klo c c') + live (khi c c')) := by rw [e4]; abel
      _ = (live a + live b + live c) + (live a' + live b' + live c') := by rw [e1, e2, e3]; abel
      _ = M + N := by rw [hM, hN]
  rw [← tot] at h ⊢
  rw [dead o1 o2 o3 (R := live (khi (khi (khi a a') (klo b b')) (klo c c')) + live (khi c c')) (by rw [← add_assoc]; exact h),
    dead o1 o2 o4 (R := live (khi b b') + live (khi c c')) (by refine le_of_eq_of_le (congrArg Multiset.card ?_) h; abel),
    dead o1 o2 o5 (R := live (khi b b') + live (khi (khi (khi a a') (klo b b')) (klo c c'))) (by refine le_of_eq_of_le (congrArg Multiset.card ?_) h; abel)]
  simp only [add_zero]

end Cert.KernelIdeal.Knn

end
-- ==== Proof.Best.lean ====
/- The least entry of one list and of two, with the least index at which it stands. -/
module

public import proofs.«01_k».proof.Proof.Body
public import proofs.«01_k».proof.Proof.Merge
public import Idealize.ShloMosaic.Lib.Pointwise
public import Idealize.ShloMosaic.Lib.SortNet.Extract

@[expose] public section

set_option maxRecDepth 16384
set_option maxHeartbeats 400000

noncomputable section

namespace Cert.KernelIdeal.Knn

open Idealize.ShloMosaic Cert.KernelIdeal.Gen

/-- The index word of a masked-out entry. -/
abbrev far : BitVec 32 := 1073741824#32

theorem inf_top : Ideal.ofBits .f32 (2139095040#32) = (⊤ : EReal) := by simp [Ideal.ofBits, Ideal.ieee]

theorem select_eq {α : Type} (x y : BitVec 32) (a b : α) : Scalar.select (IntOp.cmpi .eq x y) a b = if x = y then a else b := by
  unfold Scalar.select IntOp.cmpi
  by_cases h : x = y
  · subst h; simp
  · have : (x == y) = false := by simpa using h
    rw [if_neg h]
    simp only [this]
    exact if_neg (by decide)

theorem toInt_small (n : ℕ) (h : n < 2147483648) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-! ## Least value, least index -/

theorem fold_min {n : ℕ} (v : Fin n → EReal) : (∀ p, Finset.univ.fold min ⊤ v ≤ v p)
    ∧ (Finset.univ.fold min ⊤ v = ⊤ ∨ ∃ p, v p = Finset.univ.fold min ⊤ v) := by
  refine ⟨fun p => (Finset.fold_min_le _).mpr (.inr ⟨p, Finset.mem_univ p, le_rfl⟩), ?_⟩
  rcases (Finset.fold_min_le (s := Finset.univ) (f := v) (b := (⊤ : EReal)) (Finset.univ.fold min ⊤ v)).mp le_rfl with h | ⟨p, -, h⟩
  · exact .inl (top_le_iff.mp h)
  · exact .inr ⟨p, le_antisymm h ((Finset.fold_min_le _).mpr (.inr ⟨p, Finset.mem_univ p, le_rfl⟩))⟩

theorem fold_minsi {ι : Type} [DecidableEq ι] (s : Finset ι) (b : BitVec 32) (f : ι → BitVec 32) :
    (s.fold IntOp.minsi b f).toInt ≤ b.toInt ∧ (∀ p ∈ s, (s.fold IntOp.minsi b f).toInt ≤ (f p).toInt)
      ∧ (s.fold IntOp.minsi b f = b ∨ ∃ p ∈ s, s.fold IntOp.minsi b f = f p) := by
  induction s using Finset.induction with
  | empty => exact ⟨le_rfl, fun p h => absurd h (Finset.notMem_empty p), .inl rfl⟩
  | insert a s ha ih =>
    rw [Finset.fold_insert ha]
    obtain ⟨h1, h2, h3⟩ := ih
    refine ⟨?_, fun p hp => ?_, ?_⟩
    · rw [SortNet.toInt_minsi]; exact (min_le_right _ _).trans h1
    · rw [SortNet.toInt_minsi]
      rcases Finset.mem_insert.mp hp with rfl | hp
      · exact min_le_left _ _
      · exact (min_le_right _ _).trans (h2 p hp)
    · unfold IntOp.minsi
      split
      · exact .inr ⟨a, Finset.mem_insert_self _ _, rfl⟩
      · rcases h3 with h | ⟨p, hp, h⟩
        · exact .inl h
        · exact .inr ⟨p, Finset.mem_insert_of_mem hp, h⟩

/-- The least index among the entries at `M`, the others masked out. -/
theorem fold_masked {n : ℕ} (hn : 0 < n) (v : Fin n → EReal) (w : Fin n → BitVec 32) (M : EReal) (hw : ∀ p, v p = M → (w p).toInt < 1073741824) :
    let A := Finset.univ.fold IntOp.minsi 2147483647#32 fun p => if v p = M then w p else far
    (∀ p, v p = M → A.toInt ≤ (w p).toInt) ∧ (A = far ∨ ∃ p, v p = M ∧ A = w p) := by
  intro A
  obtain ⟨-, h2, h3⟩ := fold_minsi Finset.univ 2147483647#32 fun p => if v p = M then w p else far
  refine ⟨fun p hp => ?_, ?_⟩
  · have := h2 p (Finset.mem_univ p)
    rwa [if_pos hp] at this
  · rcases h3 with h | ⟨p, -, h⟩
    · exfalso
      have := h2 ⟨0, hn⟩ (Finset.mem_univ _)
      rw [h] at this
      have e : (2147483647#32).toInt = 2147483647 := by decide
      have e' : far.toInt = 1073741824 := by decide
      rw [e] at this
      split at this
      · have := hw _ ‹_›; omega
      · omega
    · split at h
      · exact .inr ⟨p, ‹_›, h⟩
      · exact .inl h

/-- One list's least entry. -/
theorem best1 {n : ℕ} (hn : 0 < n) (v : Fin n → EReal) (w : Fin n → BitVec 32) (hw : ∀ p, v p < ⊤ → (w p).toInt < 1073741824) (h : ∃ p, v p < ⊤) :
    IsBest v (fun p => (w p).toInt) (Finset.univ.fold min ⊤ v)
      (Finset.univ.fold IntOp.minsi 2147483647#32 fun p => if v p = Finset.univ.fold min ⊤ v then w p else far).toInt := by
  obtain ⟨hle, hM⟩ := fold_min v
  obtain ⟨p₀, hp₀⟩ := h
  have hlt : Finset.univ.fold min ⊤ v < ⊤ := (hle p₀).trans_lt hp₀
  obtain ⟨q, hq⟩ := hM.resolve_left hlt.ne
  obtain ⟨h1, h2⟩ := fold_masked hn v w (Finset.univ.fold min ⊤ v) fun p hp => hw p (hp ▸ hlt)
  refine ⟨hle, fun _ => ?_, fun p _ hp => h1 p hp⟩
  rcases h2 with h | ⟨p, hp, h⟩
  · have := h1 q hq
    rw [h] at this
    have e' : far.toInt = 1073741824 := by decide
    have := hw q (hq ▸ hlt)
    omega
  · exact ⟨p, hp, by rw [h]⟩

/-- Two lists' least entry; the first list's indices are `n` and up. -/
theorem best2 {a b : ℕ} (ha : 0 < a) (hb : 0 < b) (ha' : a ≤ 2048) (v : Fin a → EReal) (v' : Fin b → EReal) (w : Fin b → BitVec 32) (n : BitVec 32) (hn : 0 ≤ n.toInt) (hn' : n.toInt ≤ 8192)
    (hw : ∀ p, v' p < ⊤ → (w p).toInt < 1073741824) (h : ∃ p, Sum.elim v v' p < ⊤) (M : EReal) (hM : M = min (Finset.univ.fold min ⊤ v) (Finset.univ.fold min ⊤ v')) :
    IsBest (Sum.elim v v') (Sum.elim (fun p => (BitVec.ofNat 32 p.val + n).toInt) fun p => (w p).toInt) M
      (IntOp.minsi (Finset.univ.fold IntOp.minsi 2147483647#32 fun p => if v' p = M then w p else far)
        (IntOp.addi (Finset.univ.fold IntOp.minsi 2147483647#32 fun p => if v p = M then BitVec.ofNat 32 p.val else far) n)).toInt := by
  obtain ⟨hle, hM1⟩ := fold_min v
  obtain ⟨hle', hM2⟩ := fold_min v'
  have hleM : ∀ p, M ≤ Sum.elim v v' p := by
    rw [hM]
    rintro (p | p)
    · exact (min_le_left _ _).trans (hle p)
    · exact (min_le_right _ _).trans (hle' p)
  obtain ⟨p₀, hp₀⟩ := h
  have hlt : M < ⊤ := (hleM p₀).trans_lt hp₀
  have hex : ∃ p, Sum.elim v v' p = M := by
    rcases min_choice (Finset.univ.fold min ⊤ v) (Finset.univ.fold min ⊤ v') with e | e <;> rw [e] at hM <;> subst hM
    · obtain ⟨q, hq⟩ := hM1.resolve_left hlt.ne
      exact ⟨.inl q, hq⟩
    · obtain ⟨q, hq⟩ := hM2.resolve_left hlt.ne
      exact ⟨.inr q, hq⟩
  have e' : far.toInt = 1073741824 := by decide
  have small : ∀ p : Fin a, (BitVec.ofNat 32 p.val).toInt = p.val := fun p => by
    have := p.isLt
    exact toInt_small _ (by omega)
  have add : ∀ x : BitVec 32, 0 ≤ x.toInt → x.toInt ≤ 1073741824 → (x + n).toInt = x.toInt + n.toInt := fun x h0 h1 => by
    rw [BitVec.toInt_add]; rw [Int.bmod_eq_of_le] <;> norm_num <;> omega
  obtain ⟨h1, h2⟩ := fold_masked ha v (fun p => BitVec.ofNat 32 p.val) M fun p _ => by rw [small]; have := p.isLt; omega
  obtain ⟨h1', h2'⟩ := fold_masked hb v' w M fun p hp => hw p (hp ▸ hlt)
  set A := Finset.univ.fold IntOp.minsi 2147483647#32 fun p => if v p = M then BitVec.ofNat 32 p.val else far
  set A' := Finset.univ.fold IntOp.minsi 2147483647#32 fun p => if v' p = M then w p else far
  have hA : 0 ≤ A.toInt ∧ A.toInt ≤ 1073741824 := by
    rcases h2 with h | ⟨p, -, h⟩
    · rw [h, e']; omega
    · rw [h, small]; have := p.isLt; omega
  have hadd : (IntOp.addi A n).toInt = A.toInt + n.toInt := add A hA.1 hA.2
  have least : ∀ p, Sum.elim v v' p = M → (IntOp.minsi A' (IntOp.addi A n)).toInt ≤ Sum.elim (fun p : Fin a => (BitVec.ofNat 32 p.val + n).toInt) (fun p => (w p).toInt) p := by
    rw [SortNet.toInt_minsi, hadd]
    rintro (p | p) hp
    · refine (min_le_right _ _).trans ?_
      show _ ≤ (BitVec.ofNat 32 p.val + n).toInt
      rw [add _ (by rw [small]; omega) (by rw [small]; have := p.isLt; omega)]
      have := h1 p hp
      omega
    · exact (min_le_left _ _).trans (h1' p hp)
  refine ⟨hleM, fun _ => ?_, fun p _ hp => least p hp⟩
  obtain ⟨q, hq⟩ := hex
  have hlq := least q hq
  have hq' : Sum.elim (fun p : Fin a => (BitVec.ofNat 32 p.val + n).toInt) (fun p => (w p).toInt) q < 1073741824 := by
    rcases q with q | q
    · show (BitVec.ofNat 32 q.val + n).toInt < _
      rw [add _ (by rw [small]; omega) (by rw [small]; have := q.isLt; omega), small]
      have := q.isLt; omega
    · exact hw q (show v' q < ⊤ from (show v' q = M from hq) ▸ hlt)
  unfold IntOp.minsi at hlq ⊢
  split at hlq
  case isTrue hs =>
    rw [if_pos hs]
    rcases h2' with h | ⟨p, hp, h⟩
    · rw [h, e'] at hlq; omega
    · exact ⟨.inr p, hp, by rw [h]; rfl⟩
  case isFalse hs =>
    rw [if_neg hs]
    rcases h2 with h | ⟨p, hp, h⟩
    · rw [hadd, h, e'] at hlq; omega
    · refine ⟨.inl p, hp, ?_⟩
      show (BitVec.ofNat 32 p.val + n).toInt = (A + n).toInt
      rw [h]

end Cert.KernelIdeal.Knn

end
-- ==== Proof.Rows.lean ====
/- The rows of the second kernel's vectors over the extended reals: one pass of either selection, read row by row. -/
module

public import proofs.«01_k».proof.Proof.Best
public import Idealize.ShloMosaic.Lib.Pointwise

@[expose] public section

set_option maxRecDepth 16384
set_option maxHeartbeats 400000

noncomputable section

namespace Cert.KernelIdeal.Knn

open Idealize.ShloMosaic Cert.KernelIdeal.Gen

/-! ## The passes, row by row -/

variable (u : Vec Ideal S1024x512 .f32) (ui : IVec S1024x512 32) (d : Vec Ideal S1024x2048 .f32) (bv : Vec Ideal S1024x128 .f32) (bi : IVec S1024x128 32)
  (nv : Vec Ideal S1024x128 .f32) (ni : IVec S1024x128 32) (v20 : BitVec 32) (v21 : IVec S1024x128 32) (r : Fin 1024)

theorem fastMin : k1_pay3 u (ix2 r 0) = Finset.univ.fold min ⊤ fun p => u (ix2 r p) := by
  unfold k1_pay3
  pointwise
  rw [inf_top]
theorem fastIdx : k1_pay4 u ui (ix2 r 0)
    = Finset.univ.fold IntOp.minsi 2147483647#32 fun p => if u (ix2 r p) = Finset.univ.fold min ⊤ (fun p => u (ix2 r p)) then ui (ix2 r p) else far := by
  rw [← fastMin]
  unfold k1_pay4
  pointwise
theorem fastClear (p : Fin 512) : k1_pay5 u ui (ix2 r p) = clear (fun p => u (ix2 r p)) (fun p => (ui (ix2 r p)).toInt) (k1_pay4 u ui (ix2 r 0)).toInt p := by
  unfold k1_pay5
  pointwise
  rw [select_eq, inf_top]
  unfold clear
  simp only [BitVec.toInt_inj]
theorem fastV (k : Fin k1_t2_loop.trips) (p : Fin 128) : k1_pay6 v21 k u nv (ix2 r p) = if v21 (ix2 r p) = Scf.iv 0#32 1#32 k.val then k1_pay3 u (ix2 r 0) else nv (ix2 r p) := by
  rw [← select_eq]
  unfold k1_pay6
  pointwise
theorem fastI (k : Fin k1_t2_loop.trips) (p : Fin 128) : k1_pay7 (F := Ideal) v21 k u ui ni (ix2 r p) = if v21 (ix2 r p) = Scf.iv 0#32 1#32 k.val then k1_pay4 u ui (ix2 r 0) else ni (ix2 r p) := by
  rw [← select_eq]
  unfold k1_pay7
  pointwise

theorem exactMin : k1_pay226 d bv (ix2 r 0) = min (Finset.univ.fold min ⊤ fun p => d (ix2 r p)) (Finset.univ.fold min ⊤ fun p => bv (ix2 r p)) := by
  unfold k1_pay226
  pointwise
  rw [inf_top]
theorem exactIdx : k1_pay227 v20 d bv bi (ix2 r 0)
    = IntOp.minsi (Finset.univ.fold IntOp.minsi 2147483647#32 fun p => if bv (ix2 r p) = k1_pay226 d bv (ix2 r 0) then bi (ix2 r p) else far)
        (IntOp.addi (Finset.univ.fold IntOp.minsi 2147483647#32 fun p => if d (ix2 r p) = k1_pay226 d bv (ix2 r 0) then BitVec.ofNat 32 p.val else far) v20) := by
  unfold k1_pay227
  pointwise
theorem exactClear (p : Fin 2048 ⊕ Fin 128) : Sum.elim (fun p => k1_pay228 v20 d bv bi (ix2 r p)) (fun p => k1_pay229 v20 d bv bi (ix2 r p)) p
    = clear (Sum.elim (fun p => d (ix2 r p)) fun p => bv (ix2 r p)) (Sum.elim (fun p : Fin 2048 => (BitVec.ofNat 32 p.val + v20).toInt) fun p => (bi (ix2 r p)).toInt)
        (k1_pay227 v20 d bv bi (ix2 r 0)).toInt p := by
  rcases p with p | p
  · show k1_pay228 v20 d bv bi (ix2 r p) = _
    unfold k1_pay228
    pointwise
    rw [select_eq, inf_top]
    unfold clear
    simp only [Sum.elim_inl, BitVec.toInt_inj]
    refine if_congr ?_ rfl rfl
    exact ⟨fun h => by rw [h]; exact BitVec.sub_add_cancel _ _, fun h => by rw [← h]; exact (BitVec.add_sub_cancel _ _).symm⟩
  · show k1_pay229 v20 d bv bi (ix2 r p) = _
    unfold k1_pay229
    pointwise
    rw [select_eq, inf_top]
    unfold clear
    simp only [Sum.elim_inr, BitVec.toInt_inj]
theorem exactV (w : BitVec 32) (m : Vec Ideal S1024x1 .f32) (p : Fin 128) : k1_pay8 v21 w m nv (ix2 r p) = if v21 (ix2 r p) = w then m (ix2 r 0) else nv (ix2 r p) := by
  rw [← select_eq]
  unfold k1_pay8
  pointwise
theorem exactI (w : BitVec 32) (m : IVec S1024x1 32) (p : Fin 128) : k1_pay9 (F := Ideal) v21 w m ni (ix2 r p) = if v21 (ix2 r p) = w then m (ix2 r 0) else ni (ix2 r p) := by
  rw [← select_eq]
  unfold k1_pay9
  pointwise

end Cert.KernelIdeal.Knn

end
-- ==== Proof.Select.lean ====
/- Either selection, row by row: after sixteen passes the lists hold the sixteen least candidates in order. -/
module

public import proofs.«01_k».proof.Proof.Rows
public import Idealize.ShloMosaic.Lib.WordArith.Masks

@[expose] public section

set_option maxRecDepth 16384
set_option maxHeartbeats 400000

noncomputable section

namespace Cert.KernelIdeal.Knn

open Idealize.ShloMosaic Cert.KernelIdeal.Gen

/-- The first `k` lanes hold the `k` least of `C` in order, and the others nothing. -/
structure Chosen (C : Finset Key) (k : ℕ) (nv : Fin 128 → EReal) (ni : Fin 128 → ℤ) : Prop where
  nth : ∀ p, p.val < k → IsNth C p.val (key (nv p) (ni p))
  top : ∀ p, k ≤ p.val → nv p = ⊤

theorem Chosen.succ {C : Finset Key} {k : ℕ} {nv nv' : Fin 128 → EReal} {ni ni' : Fin 128 → ℤ} {m : EReal} {a : ℤ} (h : Chosen C k nv ni) (hn : IsNth C k (key m a))
    (hv : ∀ p, nv' p = if p.val = k then m else nv p) (hi : ∀ p, ni' p = if p.val = k then a else ni p) : Chosen C (k + 1) nv' ni' := by
  refine ⟨fun p hp => ?_, fun p hp => ?_⟩
  · rw [hv, hi]
    by_cases e : p.val = k
    · rw [if_pos e, if_pos e, e]; exact hn
    · rw [if_neg e, if_neg e]; exact h.nth p (by omega)
  · rw [hv, if_neg (by omega)]
    exact h.top p (by omega)

theorem Chosen.holds {d : ℕ → EReal} {n : ℕ} {C : Finset Key} {nv : Fin 128 → EReal} {ni : Fin 128 → ℤ} (h : Chosen C 16 nv ni) (hn : n ≠ 0) (hC : C ⊆ cols d n)
    (hout : ∀ e ∈ cols d n, e ∉ C → 16 ≤ (C.filter (· < e)).card) : Holds d n nv ni :=
  ⟨fun p hp _ => IsNth.of_sub hp hC hout (h.nth p hp), fun p hp => h.top p (hp.resolve_right hn)⟩

theorem Left.bound {ι : Type} [Fintype ι] {C : Finset Key} {t : ℕ} {v : ι → EReal} {x : ι → ℤ} (h : Left C t (bag v x)) (hC : ∀ e ∈ C, e.idx < 1073741824) (p : ι) (hp : v p < ⊤) : x p < 1073741824 := by
  obtain ⟨S, hS, hsub, -⟩ := h
  refine hC (key (v p) (x p)) (hsub ?_)
  rw [← Finset.mem_val, ← hS, mem_bag]
  exact ⟨p, hp, rfl⟩

theorem lane_iv (r : Fin 1024) (p : Fin 128) {k : ℕ} (hk : k < 16) : lane (ix2 r p) = Scf.iv 0#32 1#32 k ↔ p.val = k := by
  have e : lane (ix2 r p) = BitVec.ofNat 32 p.val := by
    unfold lane
    pointwise
  have e' : Scf.iv (0#32 : BitVec 32) 1#32 k = BitVec.ofNat 32 k := by
    apply BitVec.eq_of_toNat_eq
    rw [WordArith.toNat_iv_zero_one _ (by omega), BitVec.toNat_ofNat, Nat.mod_eq_of_lt (by omega)]
  rw [e, e']
  constructor
  · intro h
    have h := congrArg BitVec.toInt h
    have := p.isLt
    rw [toInt_small _ (by omega), toInt_small _ (by omega)] at h
    omega
  · intro h; rw [h]

variable {C : Finset Key} (hinj : ∀ k ∈ C, ∀ l ∈ C, k.idx = l.idx → k = l) (h16 : 16 ≤ C.card) (hlt : ∀ e ∈ C, e.idx < 1073741824)
  (r : Fin 1024) (NV : Vec Ideal S1024x128 .f32) (NI : IVec S1024x128 32) (hNV : ∀ p : Fin 128, NV (ix2 r p) = (⊤ : EReal))

include hinj h16 hlt hNV

/-- The fast selection. -/
theorem fastSel (U : Vec Ideal S1024x512 .f32) (UI : IVec S1024x512 32)
    (hU : bag (fun p : Fin 512 => U (ix2 r p)) (fun p => (UI (ix2 r p)).toInt) = C.val) (k : ℕ) (hk : k ≤ 16) :
    Left C k (bag (fun p : Fin 512 => (sel2 (F := Ideal) lane UI ⟨U, NV, NI⟩ k).u (ix2 r p)) (fun p => (UI (ix2 r p)).toInt))
      ∧ Chosen C k (fun p => (sel2 (F := Ideal) lane UI ⟨U, NV, NI⟩ k).nv (ix2 r p)) (fun p => ((sel2 (F := Ideal) lane UI ⟨U, NV, NI⟩ k).ni (ix2 r p)).toInt) := by
  induction k with
  | zero =>
    refine ⟨?_, fun p hp => absurd hp (Nat.not_lt_zero _), fun p _ => hNV p⟩
    show Left C 0 (bag (fun p : Fin 512 => U (ix2 r p)) _)
    rw [hU]
    exact Left.zero C
  | succ k ih =>
    obtain ⟨hL, hCh⟩ := ih (by omega)
    have hk' : k < k1_t2_loop.trips := by rw [trips2]; omega
    have e : sel2 (F := Ideal) lane UI ⟨U, NV, NI⟩ (k + 1) = ⟨k1_pay5 (F := Ideal) (sel2 (F := Ideal) lane UI ⟨U, NV, NI⟩ k).u UI,
        k1_pay6 (F := Ideal) lane ⟨k, hk'⟩ (sel2 (F := Ideal) lane UI ⟨U, NV, NI⟩ k).u (sel2 (F := Ideal) lane UI ⟨U, NV, NI⟩ k).nv,
        k1_pay7 (F := Ideal) lane ⟨k, hk'⟩ (sel2 (F := Ideal) lane UI ⟨U, NV, NI⟩ k).u UI (sel2 (F := Ideal) lane UI ⟨U, NV, NI⟩ k).ni⟩ := by
      rw [sel2]; exact dif_pos hk'
    rw [e]
    generalize sel2 (F := Ideal) lane UI ⟨U, NV, NI⟩ k = s at *
    have hb : (∃ p : Fin 512, s.u (ix2 r p) < (⊤ : EReal)) → IsBest (fun p : Fin 512 => s.u (ix2 r p)) (fun p => (UI (ix2 r p)).toInt)
        (k1_pay3 (F := Ideal) s.u (ix2 r 0)) (k1_pay4 (F := Ideal) s.u UI (ix2 r 0)).toInt := fun hex => by
      rw [fastMin, fastIdx]
      exact best1 (by omega) _ _ (fun p hp => hL.bound hlt p hp) hex
    have P := pass hinj (by omega) hL hb
    refine ⟨?_, hCh.succ P.1 (fun p => ?_) (fun p => ?_)⟩
    · have e2 : (fun p : Fin 512 => k1_pay5 (F := Ideal) s.u UI (ix2 r p)) = clear (fun p => s.u (ix2 r p)) (fun p => (UI (ix2 r p)).toInt) (k1_pay4 (F := Ideal) s.u UI (ix2 r 0)).toInt :=
        funext fun p => fastClear _ _ _ p
      refine (congrArg (fun v => Left C (k + 1) (bag v fun p : Fin 512 => (UI (ix2 r p)).toInt)) ?_).mpr P.2
      dsimp only
      exact e2
    · exact (fastV _ _ _ _ _ p).trans (if_congr (lane_iv r p (k := k) (by omega)) rfl rfl)
    · refine (congrArg BitVec.toInt (fastI _ _ _ _ _ _ p)).trans ?_
      rw [apply_ite BitVec.toInt]
      exact if_congr (lane_iv r p (k := k) (by omega)) rfl rfl

/-- The exact selection. -/
theorem exactSel (n : BitVec 32) (hn : 0 ≤ n.toInt) (hn' : n.toInt ≤ 8192) (D : Vec Ideal S1024x2048 .f32) (BV : Vec Ideal S1024x128 .f32) (BI : IVec S1024x128 32)
    (hU : bag (Sum.elim (fun p : Fin 2048 => D (ix2 r p)) fun p : Fin 128 => BV (ix2 r p))
      (Sum.elim (fun p : Fin 2048 => (BitVec.ofNat 32 p.val + n).toInt) fun p => (BI (ix2 r p)).toInt) = C.val) (k : ℕ) (hk : k ≤ 16) :
    Left C k (bag (Sum.elim (fun p : Fin 2048 => (sel3 (F := Ideal) n lane BI ⟨D, BV, NV, NI⟩ k).d (ix2 r p)) fun p : Fin 128 => (sel3 (F := Ideal) n lane BI ⟨D, BV, NV, NI⟩ k).bv (ix2 r p))
        (Sum.elim (fun p : Fin 2048 => (BitVec.ofNat 32 p.val + n).toInt) fun p => (BI (ix2 r p)).toInt))
      ∧ Chosen C k (fun p => (sel3 (F := Ideal) n lane BI ⟨D, BV, NV, NI⟩ k).nv (ix2 r p)) (fun p => ((sel3 (F := Ideal) n lane BI ⟨D, BV, NV, NI⟩ k).ni (ix2 r p)).toInt) := by
  induction k with
  | zero =>
    refine ⟨?_, fun p hp => absurd hp (Nat.not_lt_zero _), fun p _ => hNV p⟩
    show Left C 0 (bag (Sum.elim (fun p : Fin 2048 => D (ix2 r p)) fun p : Fin 128 => BV (ix2 r p)) _)
    rw [hU]
    exact Left.zero C
  | succ k ih =>
    obtain ⟨hL, hCh⟩ := ih (by omega)
    have hk' : k < k1_t3_loop.trips := by rw [trips3]; omega
    have e : sel3 (F := Ideal) n lane BI ⟨D, BV, NV, NI⟩ (k + 1) = ⟨k1_pay228 (F := Ideal) n (sel3 (F := Ideal) n lane BI ⟨D, BV, NV, NI⟩ k).d (sel3 (F := Ideal) n lane BI ⟨D, BV, NV, NI⟩ k).bv BI,
        k1_pay229 (F := Ideal) n (sel3 (F := Ideal) n lane BI ⟨D, BV, NV, NI⟩ k).d (sel3 (F := Ideal) n lane BI ⟨D, BV, NV, NI⟩ k).bv BI,
        k1_pay8 (F := Ideal) lane (iv3 ⟨k, hk'⟩) (k1_pay226 (F := Ideal) (sel3 (F := Ideal) n lane BI ⟨D, BV, NV, NI⟩ k).d (sel3 (F := Ideal) n lane BI ⟨D, BV, NV, NI⟩ k).bv) (sel3 (F := Ideal) n lane BI ⟨D, BV, NV, NI⟩ k).nv,
        k1_pay9 (F := Ideal) lane (iv3 ⟨k, hk'⟩) (k1_pay227 (F := Ideal) n (sel3 (F := Ideal) n lane BI ⟨D, BV, NV, NI⟩ k).d (sel3 (F := Ideal) n lane BI ⟨D, BV, NV, NI⟩ k).bv BI) (sel3 (F := Ideal) n lane BI ⟨D, BV, NV, NI⟩ k).ni⟩ := by
      rw [sel3]; exact dif_pos hk'
    rw [e]
    generalize sel3 (F := Ideal) n lane BI ⟨D, BV, NV, NI⟩ k = s at *
    have hb : (∃ p, Sum.elim (fun p : Fin 2048 => s.d (ix2 r p)) (fun p : Fin 128 => s.bv (ix2 r p)) p < (⊤ : EReal))
        → IsBest (Sum.elim (fun p : Fin 2048 => s.d (ix2 r p)) fun p : Fin 128 => s.bv (ix2 r p))
          (Sum.elim (fun p : Fin 2048 => (BitVec.ofNat 32 p.val + n).toInt) fun p => (BI (ix2 r p)).toInt)
          (k1_pay226 (F := Ideal) s.d s.bv (ix2 r 0)) (k1_pay227 (F := Ideal) n s.d s.bv BI (ix2 r 0)).toInt := fun hex => by
      have hm := exactMin s.d s.bv r
      rw [exactIdx]
      generalize k1_pay226 (F := Ideal) s.d s.bv (ix2 r 0) = m at *
      exact best2 (by omega) (by omega) le_rfl _ _ _ _ hn hn' (fun p hp => hL.bound hlt (.inr p) hp) hex _ hm
    have P := pass hinj (by omega) hL hb
    refine ⟨?_, hCh.succ P.1 (fun p => ?_) (fun p => ?_)⟩
    · have e2 : (Sum.elim (fun p : Fin 2048 => k1_pay228 (F := Ideal) n s.d s.bv BI (ix2 r p)) fun p : Fin 128 => k1_pay229 (F := Ideal) n s.d s.bv BI (ix2 r p)) = _ :=
        funext fun p => exactClear _ _ _ _ _ p
      show Left C (k + 1) (bag (Sum.elim (fun p : Fin 2048 => k1_pay228 (F := Ideal) n s.d s.bv BI (ix2 r p)) fun p : Fin 128 => k1_pay229 (F := Ideal) n s.d s.bv BI (ix2 r p)) _)
      rw [e2]
      exact P.2
    · exact (exactV _ _ _ _ _ p).trans (if_congr (lane_iv r p (k := k) (by omega)) rfl rfl)
    · refine (congrArg BitVec.toInt (exactI _ _ _ _ _ p)).trans ?_
      rw [apply_ite BitVec.toInt]
      exact if_congr (lane_iv r p (k := k) (by omega)) rfl rfl

end Cert.KernelIdeal.Knn

end
-- ==== Proof.Cand.lean ====
/- The candidates of either selection, row by row: the columns below the threshold, or all of them, and the kept ones. -/
module

public import proofs.«01_k».proof.Proof.Best

@[expose] public section

set_option maxRecDepth 16384
set_option maxHeartbeats 400000

noncomputable section

namespace Cert.KernelIdeal.Knn

open Idealize.ShloMosaic Cert.KernelIdeal.Gen

/-! ## The network at one place -/

/-- The key a slot holds at one place. -/
def Slot.at (s : Slot Ideal) (a : Fin 64) (b : Fin 128) : Key := key (s.v (ix2 a b)) (s.i (ix2 a b)).toInt

theorem klo_key (v w : EReal) (x y : ℤ) : klo (key v x) (key w y) = if v ≤ w then key v x else key w y := rfl
theorem khi_key (v w : EReal) (x y : ℤ) : khi (key v x) (key w y) = if v ≤ w then key w y else key v x := rfl

theorem lo_at (p q : Slot Ideal) (a : Fin 64) (b : Fin 128) : (p.lo q).at a b = klo (p.at a b) (q.at a b) := by
  unfold Slot.at Slot.lo
  rw [klo_key]
  pointwise
  split <;> rfl
theorem hi_at (p q : Slot Ideal) (a : Fin 64) (b : Fin 128) : (p.hi q).at a b = khi (p.at a b) (q.at a b) := by
  unfold Slot.at Slot.hi
  rw [khi_key]
  pointwise
  split <;> rfl

theorem sum16 {M : Type*} [AddCommMonoid M] (g : Fin 16 → M) : (∑ j, g j)
    = ((g 0 + g 8 + (g 4 + g 12)) + (g 2 + g 10 + (g 6 + g 14))) + ((g 1 + g 9 + (g 5 + g 13)) + (g 3 + g 11 + (g 7 + g 15))) := by
  have e : (∑ j, g j) = g 0 + (g 1 + (g 2 + (g 3 + (g 4 + (g 5 + (g 6 + (g 7 + (g 8 + (g 9 + (g 10 + (g 11 + (g 12 + (g 13 + (g 14 + g 15)))))))))))))) := by
    simp only [Fin.sum_univ_succ, Fin.sum_univ_zero, add_zero]
    rfl
  rw [e]
  abel

theorem net_rep (s : Fin 16 → Slot Ideal) (a : Fin 64) (b : Fin 128) :
    Rep ((net s).a.at a b) ((net s).b.at a b) ((net s).c.at a b) (∑ j, live ((s j).at a b)) := by
  rw [sum16]
  unfold net merge33 merge22
  simp only [lo_at, hi_at]
  exact rep33 (rep33 (rep22 _ _ _ _) (rep22 _ _ _ _)) (rep33 (rep22 _ _ _ _) (rep22 _ _ _ _))

/-- The number of kept chunks at one place. -/
theorem count_at (tv : Vec Ideal S64x1 .f32) (ch : Fin 16 → Vec Ideal S64x128 .f32) (a : Fin 64) (b : Fin 128) :
    (count tv ch (ix2 a b)).toInt = ((∑ j, if ch j (ix2 a b) < tv (ix2 a 0) then 1 else 0 : ℕ) : ℤ) := by
  have one : ∀ j, extui 32 (keep tv (ch j)) natLt_1_32 (ix2 a b) = BitVec.ofNat 32 (if ch j (ix2 a b) < tv (ix2 a 0) then 1 else 0) := fun j => by
    unfold keep
    pointwise
    by_cases h : ch j (ix2 a b) < tv (ix2 a 0)
    · rw [if_pos h, decide_eq_true h]; rfl
    · rw [if_neg h, decide_eq_false h]; rfl
  have e : count tv ch (ix2 a b) = BitVec.ofNat 32 (∑ j, if ch j (ix2 a b) < tv (ix2 a 0) then 1 else 0) := by
    rw [sum16]
    simp only [BitVec.ofNat_add, ← one]
    rfl
  rw [e]
  refine toInt_small _ ((Finset.sum_le_card_nsmul _ _ 1 fun j _ => ?_).trans_lt (by simp))
  split <;> omega

section Lanes
variable {α : Type} (X Y Z : Fin 16 → S64x128.Idx → α) (W : S1024x128.Idx → α) (r : Fin 1024) (b : Fin 128)

theorem lanes4_0 (h : b.val < 512) : lanes4 X Y Z W (ix2 r ⟨b.val, h⟩) = X (stripOf r) (ix2 (rowIn r) b) :=
  dif_pos (show b.val < 128 from b.isLt)
theorem lanes4_1 (h : 128 + b.val < 512) : lanes4 X Y Z W (ix2 r ⟨128 + b.val, h⟩) = Y (stripOf r) (ix2 (rowIn r) b) := by
  have hb := b.isLt
  refine (dif_neg (show ¬128 + b.val < 128 by omega)).trans ((dif_pos (show 128 + b.val < 256 by omega)).trans (congrArg (Y (stripOf r)) ?_))
  exact congrArg (ix2 (rowIn r)) (Fin.ext (show 128 + b.val - 128 = b.val by omega))
theorem lanes4_2 (h : 256 + b.val < 512) : lanes4 X Y Z W (ix2 r ⟨256 + b.val, h⟩) = Z (stripOf r) (ix2 (rowIn r) b) := by
  have hb := b.isLt
  refine (dif_neg (show ¬256 + b.val < 128 by omega)).trans ((dif_neg (show ¬256 + b.val < 256 by omega)).trans
    ((dif_pos (show 256 + b.val < 384 by omega)).trans (congrArg (Z (stripOf r)) ?_)))
  exact congrArg (ix2 (rowIn r)) (Fin.ext (show 256 + b.val - 256 = b.val by omega))
theorem lanes4_3 (h : 384 + b.val < 512) : lanes4 X Y Z W (ix2 r ⟨384 + b.val, h⟩) = W (ix2 r b) := by
  have hb := b.isLt
  refine (dif_neg (show ¬384 + b.val < 128 by omega)).trans ((dif_neg (show ¬384 + b.val < 256 by omega)).trans
    ((dif_neg (show ¬384 + b.val < 384 by omega)).trans (congrArg W ?_)))
  exact congrArg (ix2 r) (Fin.ext (show 384 + b.val - 384 = b.val by omega))

end Lanes

/-! ## The candidates of one row -/

theorem sum_cols {M : Type*} [AddCommMonoid M] (g : ℕ → M) : (∑ b : Fin 128, ∑ j : Fin 16, g (b.val + 128 * j.val)) = ∑ c ∈ Finset.range 2048, g c := by
  rw [Finset.sum_comm, ← Fintype.sum_prod_type' (f := fun (j : Fin 16) (b : Fin 128) => g (b.val + 128 * j.val)), Finset.sum_range]
  exact Fintype.sum_equiv (finProdFinEquiv (m := 16) (n := 128)) _ (fun c : Fin 2048 => g c.val) fun p => rfl

theorem sum512 {M : Type*} [AddCommMonoid M] (f : Fin 512 → M) : (∑ p, f p) = (∑ b : Fin 128, f ⟨b.val, by omega⟩) + (∑ b : Fin 128, f ⟨128 + b.val, by omega⟩)
    + (∑ b : Fin 128, f ⟨256 + b.val, by omega⟩) + ∑ b : Fin 128, f ⟨384 + b.val, by omega⟩ := by
  rw [show (∑ p, f p) = _ from Fin.sum_univ_add (a := 384) (b := 128) f,
    Fin.sum_univ_add (a := 256) (b := 128) (fun i : Fin 384 => f (Fin.castAdd 128 i)),
    Fin.sum_univ_add (a := 128) (b := 128) (fun i : Fin 256 => f (Fin.castAdd 128 (Fin.castAdd 128 i)))]
  rfl

theorem fold_maxsi {ι : Type} [DecidableEq ι] (s : Finset ι) (b : BitVec 32) (f : ι → BitVec 32) : ∀ p ∈ s, (f p).toInt ≤ (s.fold IntOp.maxsi b f).toInt := by
  induction s using Finset.induction with
  | empty => exact fun p h => absurd h (Finset.notMem_empty p)
  | insert a s ha ih =>
    intro p hp
    rw [Finset.fold_insert ha, SortNet.toInt_maxsi]
    rcases Finset.mem_insert.mp hp with rfl | hp
    · exact le_max_left _ _
    · exact (ih p hp).trans (le_max_right _ _)

variable (n : ℕ) (hn : n ≤ 8192) (D : Vec Ideal S1024x2048 .f32) (bv : Vec Ideal S1024x128 .f32) (bi : IVec S1024x128 32) (r : Fin 1024) (d : ℕ → EReal)
  (hD : ∀ c : Fin 2048, D (ix2 r c) = d (n + c.val))

theorem chunk_at (j : Fin 16) (b : Fin 128) (c : Fin 2048) (hc : c.val = b.val + 128 * j.val) : chunk D (stripOf r) j (ix2 (rowIn r) b) = D (ix2 r c) := by
  refine congrArg D (funext fun a => Fin.ext ?_)
  fin_cases a
  · show 64 * (r.val / 64) + 1 * (r.val % 64) = r.val; omega
  · show 128 * j.val + 1 * b.val = c.val; omega
theorem thr_at : thr bv (stripOf r) (ix2 (rowIn r) 0) = bv (ix2 r 15) := by
  refine congrArg bv (funext fun a => Fin.ext ?_)
  fin_cases a
  · show 64 * (r.val / 64) + 1 * (r.val % 64) = r.val; omega
  · show 15 + 1 * 0 = 15; rfl

/-- A column among the candidates: kept when below the threshold. -/
abbrev cand (n : ℕ) (d : ℕ → EReal) (keep : ℕ → Prop) [DecidablePred keep] (c : ℕ) : Multiset Key := if keep c then {key (d (n + c)) ((n + c : ℕ) : ℤ)} else 0

theorem word_at (hn : n ≤ 8192) (c : ℕ) (hc : c < 2048) : (BitVec.ofNat 32 c + BitVec.ofNat 32 n).toInt = ((n + c : ℕ) : ℤ) := by
  rw [← BitVec.ofNat_add, toInt_small _ (by omega), Nat.add_comm]

include hn hD in
theorem slot_at (j : Fin 16) (b : Fin 128) : live ((slot (BitVec.ofNat 32 n) (thr bv (stripOf r)) (chunk D (stripOf r)) j).at (rowIn r) b)
    = cand n d (fun c => d (n + c) < bv (ix2 r 15)) (b.val + 128 * j.val) := by
  have hb := b.isLt
  have hj := j.isLt
  have e1 := chunk_at D r j b ⟨b.val + 128 * j.val, by omega⟩ rfl
  rw [hD] at e1
  have ev : (slot (BitVec.ofNat 32 n) (thr bv (stripOf r)) (chunk D (stripOf r)) j).v (ix2 (rowIn r) b)
      = if d (n + (b.val + 128 * j.val)) < bv (ix2 r 15) then d (n + (b.val + 128 * j.val)) else ⊤ := by
    unfold slot keep
    pointwise
    rw [inf_top, e1, thr_at]
  have ei : ((slot (BitVec.ofNat 32 n) (thr bv (stripOf r)) (chunk D (stripOf r)) j).i (ix2 (rowIn r) b)).toInt = ((n + (b.val + 128 * j.val) : ℕ) : ℤ) := by
    rw [← word_at n hn _ (by omega)]
    unfold slot
    pointwise
    refine congrArg BitVec.toInt ?_
    show BitVec.ofNat 32 b.val + (BitVec.ofNat 32 n + BitVec.ofNat 32 (128 * j.val)) = _
    rw [BitVec.ofNat_add]
    ac_rfl
  unfold Slot.at cand
  rw [ev, ei]
  split
  · exact live_of_lt (lt_of_lt_of_le ‹_› le_top)
  · exact live_top rfl

theorem counts_le (h : over (F := Ideal) D bv ≠ 1#1) (b : Fin 128) : (counts (F := Ideal) D bv (ix2 r b)).toInt ≤ 3 := by
  have e : extractAt ![0, 0, 0] (k1_pay235 (F := Ideal) (counts (F := Ideal) D bv)) inpos_S1x1x1_p0_0_0
      = Finset.univ.fold IntOp.maxsi 2147483648#32 fun x : Fin 1024 × Fin 128 => counts (F := Ideal) D bv (ix2 x.1 x.2) := by
    unfold k1_pay235
    pointwise
  unfold over at h
  rw [e] at h
  refine (fold_maxsi _ 2147483648#32 (fun x : Fin 1024 × Fin 128 => counts (F := Ideal) D bv (ix2 x.1 x.2)) (r, b) (Finset.mem_univ _)).trans ?_
  generalize Finset.univ.fold IntOp.maxsi 2147483648#32 (fun x : Fin 1024 × Fin 128 => counts (F := Ideal) D bv (ix2 x.1 x.2)) = w at *
  by_contra hw
  refine h ?_
  show BitVec.ofBool ((3#32).slt w) = 1#1
  have : (3#32).slt w = true := decide_eq_true (show (3#32).toInt < w.toInt from lt_of_not_ge hw)
  rw [this]
  rfl

include hn hD in
/-- The fast selection's candidates. -/
theorem candFast (h : over (F := Ideal) D bv ≠ 1#1) :
    bag (fun p : Fin 512 => candU (F := Ideal) (BitVec.ofNat 32 n) D bv (ix2 r p)) (fun p => (candI (F := Ideal) (BitVec.ofNat 32 n) D bv bi (ix2 r p)).toInt)
      = (∑ c ∈ Finset.range 2048, cand n d (fun c => d (n + c) < bv (ix2 r 15)) c) + bag (fun p : Fin 128 => bv (ix2 r p)) (fun p => (bi (ix2 r p)).toInt) := by
  have hrep := fun b : Fin 128 => net_rep (slot (BitVec.ofNat 32 n) (thr bv (stripOf r)) (chunk D (stripOf r))) (rowIn r) b
  simp only [slot_at n hn D bv r d hD] at hrep
  have hcard : ∀ b : Fin 128, (∑ j : Fin 16, cand n d (fun c => d (n + c) < bv (ix2 r 15)) (b.val + 128 * j.val)).card ≤ 3 := fun b => by
    have hc := counts_le D bv r h b
    rw [show counts (F := Ideal) D bv (ix2 r b) = count (thr bv (stripOf r)) (chunk D (stripOf r)) (ix2 (rowIn r) b) from rfl, count_at] at hc
    rw [Multiset.card_sum]
    refine le_of_eq_of_le (Finset.sum_congr rfl fun j _ => ?_) (Int.ofNat_le.mp hc)
    have hb := b.isLt
    have hj := j.isLt
    rw [chunk_at D r j b ⟨b.val + 128 * j.val, by omega⟩ rfl, hD, thr_at]
    show (cand n d _ _).card = _
    unfold cand
    split <;> rfl
  rw [← sum_cols (cand n d fun c => d (n + c) < bv (ix2 r 15))]
  refine Eq.trans ?_ (congrArg (· + _) (Finset.sum_congr rfl fun b _ => (hrep b).eq (hcard b)))
  simp only [Finset.sum_add_distrib]
  unfold bag
  rw [sum512]
  unfold candU candI
  simp only [lanes4_0, lanes4_1, lanes4_2, lanes4_3]
  rfl

include hn hD in
/-- The exact selection's candidates. -/
theorem candExact (hd : ∀ c, d c < ⊤) :
    bag (Sum.elim (fun p : Fin 2048 => D (ix2 r p)) fun p : Fin 128 => bv (ix2 r p))
      (Sum.elim (fun p : Fin 2048 => (BitVec.ofNat 32 p.val + BitVec.ofNat 32 n).toInt) fun p => (bi (ix2 r p)).toInt)
      = (∑ c ∈ Finset.range 2048, cand n d (fun _ => True) c) + bag (fun p : Fin 128 => bv (ix2 r p)) (fun p => (bi (ix2 r p)).toInt) := by
  unfold bag
  rw [Fintype.sum_sum_type]
  refine congrArg₂ _ ?_ rfl
  rw [Finset.sum_range]
  refine Finset.sum_congr rfl fun p _ => ?_
  show live (key (D (ix2 r p)) (BitVec.ofNat 32 p.val + BitVec.ofNat 32 n).toInt) = _
  rw [hD, word_at n hn _ p.isLt, live_of_lt (show Key.val (key (d (n + p.val)) _) < ⊤ from hd _)]
  exact (if_pos trivial).symm

end Cert.KernelIdeal.Knn

end
-- ==== Proof.Step.lean ====
/- One block of columns, row by row: lists that hold the sixteen least of the columns before hold the sixteen least of
   those and the block's. -/
module

public import proofs.«01_k».proof.Proof.Select
public import proofs.«01_k».proof.Proof.Cand

@[expose] public section

set_option maxRecDepth 16384
set_option maxHeartbeats 400000

noncomputable section

namespace Cert.KernelIdeal.Knn

open Idealize.ShloMosaic Cert.KernelIdeal.Gen

/-- A row of the lists: the sixteen least of the first `n` columns, and an empty spare. -/
structure RowHolds (d : ℕ → EReal) (n : ℕ) (s : St Ideal) (r : Fin 1024) : Prop where
  holds : Holds d n (fun p => s.bv (ix2 r p)) (fun p => (s.bi (ix2 r p)).toInt)
  spare : ∀ p : Fin 128, s.nv (ix2 r p) = (⊤ : EReal)

theorem rowHolds_init (d : ℕ → EReal) (r : Fin 1024) : RowHolds d 0 St.init r := by
  have e1 : ∀ p : Fin 128, k1_pay230 (F := Ideal) (ix2 r p) = (⊤ : EReal) := fun p => by
    unfold k1_pay230
    pointwise
    exact inf_top
  have e2 : ∀ p : Fin 128, k1_pay232 (F := Ideal) (ix2 r p) = (⊤ : EReal) := fun p => by
    unfold k1_pay232
    pointwise
    exact inf_top
  exact ⟨⟨fun p _ h => absurd h (lt_irrefl 0), fun p _ => e1 p⟩, e2⟩

theorem cols_idx_lt {d : ℕ → EReal} {n : ℕ} (hn : n ≤ 8192) {C : Finset Key} (hC : C ⊆ cols d n) : ∀ e ∈ C, e.idx < 1073741824 := fun e he => by
  obtain ⟨c, hc, rfl⟩ := mem_cols.mp (hC he)
  rw [idx_key]
  omega

theorem cols_sub_inj {d : ℕ → EReal} {n : ℕ} {C : Finset Key} (hC : C ⊆ cols d n) : ∀ k ∈ C, ∀ l ∈ C, k.idx = l.idx → k = l :=
  fun k hk l hl => cols_inj k (hC hk) l (hC hl)

section

variable {F : FTy → Type} [FloatOps F] (v20 : BitVec 32) (D : FVec F S1024x2048 .f32) (s : St F)

theorem step_bv {q : FVec F S1024x128 .f32 × IVec S1024x128 32} (h : selected v20 D s = q) : (step v20 D s).bv = q.1 := by
  unfold step
  rw [h]
theorem step_bi {q : FVec F S1024x128 .f32 × IVec S1024x128 32} (h : selected v20 D s = q) : (step v20 D s).bi = q.2 := by
  unfold step
  rw [h]
theorem step_nv : (step v20 D s).nv = k1_pay12 (F := F) := by rw [step]
theorem selected_exact_v (h : over D s.bv = 1#1) : (selected v20 D s).1 = (sel3 v20 lane s.bi ⟨D, s.bv, s.nv, s.ni⟩ 16).nv := by
  unfold selected
  rw [if_pos h]
theorem selected_exact_i (h : over D s.bv = 1#1) : (selected v20 D s).2 = (sel3 v20 lane s.bi ⟨D, s.bv, s.nv, s.ni⟩ 16).ni := by
  unfold selected
  rw [if_pos h]
theorem selected_fast_v (h : ¬ over D s.bv = 1#1) : (selected v20 D s).1 = (sel2 lane (candI v20 D s.bv s.bi) ⟨candU v20 D s.bv, s.nv, s.ni⟩ 16).nv := by
  unfold selected
  rw [if_neg h]
theorem selected_fast_i (h : ¬ over D s.bv = 1#1) : (selected v20 D s).2 = (sel2 lane (candI v20 D s.bv s.bi) ⟨candU v20 D s.bv, s.nv, s.ni⟩ 16).ni := by
  unfold selected
  rw [if_neg h]

end

variable {d : ℕ → EReal} (hd : ∀ c, d c < ⊤) {n : ℕ} (hn : n ≤ 6144) (hn0 : n = 0 ∨ 16 ≤ n) {s : St Ideal} {r : Fin 1024} (H : RowHolds d n s r)
  {D : Vec Ideal S1024x2048 .f32} (hD : ∀ c : Fin 2048, D (ix2 r c) = d (n + c.val))

include hd hn hn0 H hD

theorem step_exact : Holds d (n + 2048) (fun p => (sel3 (F := Ideal) (BitVec.ofNat 32 n) lane s.bi ⟨D, s.bv, s.nv, s.ni⟩ 16).nv (ix2 r p))
    (fun p => ((sel3 (F := Ideal) (BitVec.ofNat 32 n) lane s.bi ⟨D, s.bv, s.nv, s.ni⟩ 16).ni (ix2 r p)).toInt) := by
  have hw : (BitVec.ofNat 32 n).toInt = n := toInt_small n (by omega)
  obtain ⟨C, hM, hC, hout, h16⟩ := H.holds.candidates hd hn0 (W := 2048) (by omega) (fun _ => True) (fun _ _ _ => trivial)
    (candExact n (by omega) D s.bv s.bi r d hD hd)
  exact (exactSel (cols_sub_inj hC) h16 (cols_idx_lt (by omega) hC) r s.nv s.ni H.spare (BitVec.ofNat 32 n) (by omega) (by omega) D s.bv s.bi hM 16 le_rfl).2.holds (by omega) hC hout

theorem step_fast (ho : ¬ over (F := Ideal) D s.bv = 1#1) :
    ∃ C : Finset Key, bag (fun p : Fin 512 => candU (F := Ideal) (BitVec.ofNat 32 n) D s.bv (ix2 r p)) (fun p => (candI (F := Ideal) (BitVec.ofNat 32 n) D s.bv s.bi (ix2 r p)).toInt) = C.val
      ∧ C ⊆ cols d (n + 2048) ∧ (∀ e ∈ cols d (n + 2048), e ∉ C → 16 ≤ (C.filter (· < e)).card) ∧ 16 ≤ C.card :=
  H.holds.candidates hd hn0 (W := 2048) (by omega) (fun c => d (n + c) < s.bv (ix2 r 15)) (fun _ _ h => h) (candFast n (by omega) D s.bv s.bi r d hD ho)

theorem step_fast' (ho : ¬ over (F := Ideal) D s.bv = 1#1) : Holds d (n + 2048)
    (fun p => (sel2 (F := Ideal) lane (candI (F := Ideal) (BitVec.ofNat 32 n) D s.bv s.bi) ⟨candU (F := Ideal) (BitVec.ofNat 32 n) D s.bv, s.nv, s.ni⟩ 16).nv (ix2 r p))
    (fun p => ((sel2 (F := Ideal) lane (candI (F := Ideal) (BitVec.ofNat 32 n) D s.bv s.bi) ⟨candU (F := Ideal) (BitVec.ofNat 32 n) D s.bv, s.nv, s.ni⟩ 16).ni (ix2 r p)).toInt) := by
  obtain ⟨C, hM, hC, hout, h16⟩ := step_fast hd hn hn0 H hD ho
  generalize candU (F := Ideal) (BitVec.ofNat 32 n) D s.bv = U at *
  generalize candI (F := Ideal) (BitVec.ofNat 32 n) D s.bv s.bi = UI at *
  exact (fastSel (cols_sub_inj hC) h16 (cols_idx_lt (by omega) hC) r s.nv s.ni H.spare U UI hM 16 le_rfl).2.holds (by omega) hC hout

theorem step_sel : Holds d (n + 2048) (fun p => (selected (F := Ideal) (BitVec.ofNat 32 n) D s).1 (ix2 r p)) (fun p => ((selected (F := Ideal) (BitVec.ofNat 32 n) D s).2 (ix2 r p)).toInt) := by
  by_cases ho : over (F := Ideal) D s.bv = 1#1
  · have h := step_exact hd hn hn0 H hD
    rw [← selected_exact_v _ _ _ ho, ← selected_exact_i _ _ _ ho] at h
    exact h
  · have h := step_fast' hd hn hn0 H hD ho
    rw [← selected_fast_v _ _ _ ho, ← selected_fast_i _ _ _ ho] at h
    exact h

omit hd hn hn0 H hD in
theorem spare_at (p : Fin 128) : k1_pay12 (F := Ideal) (ix2 r p) = (⊤ : EReal) := by
  unfold k1_pay12
  pointwise
  exact inf_top

theorem rowHolds_step : RowHolds d (n + 2048) (step (BitVec.ofNat 32 n) D s) r := by
  have h := step_sel hd hn hn0 H hD
  generalize hq : selected (F := Ideal) (BitVec.ofNat 32 n) D s = q at h
  rw [← step_bv _ _ _ hq, ← step_bi _ _ _ hq] at h
  exact ⟨h, fun p => (congrFun (step_nv _ _ _) _).trans (spare_at p)⟩

end Cert.KernelIdeal.Knn

end
-- ==== Proof.Point.lean ====
/- The second kernel's grid, point by point: what its blocks are, and what the lists hold after each. -/
module

public import proofs.«01_k».proof.Proof.Regs
public import proofs.«01_k».proof.Proof.Step

@[expose] public section

set_option maxRecDepth 16384
set_option maxHeartbeats 400000

noncomputable section

namespace Cert.KernelIdeal.Knn

open Idealize.ShloMosaic Idealize.ShloMosaic.TcCoe Cert.KernelIdeal.Gen

theorem idx1 : ∀ t : Fin grid1.N, win1_0.index t = ![t.val / 4, 0] ∧ win1_1.index t = ![0, t.val % 4] ∧ win1_2.index t = ![t.val / 4, 0] ∧ win1_3.index t = ![0, t.val % 4]
    ∧ win1_4.index t = ![t.val / 4, 0] := by decide +kernel

theorem colBase_eq : ∀ t : Fin grid1.N, colBase (grid1.coords t) = BitVec.ofNat 32 (2048 * (t.val % 4)) := by decide +kernel
theorem isFirst_iff : ∀ t : Fin grid1.N, isFirst (grid1.coords t) ↔ t.val % 4 = 0 := by decide +kernel

/-! ## The blocks -/

variable (V : Valuation τ sig (Elt Ideal)) (X : Vec Ideal S8192x512 .f32)

theorem blkX_at (h : V (Pipeline.arrRef spec1 0) = X) (t : Fin cfg1.N) (r : Fin 1024) (k : Fin 512) (R : Fin 8192) (hR : R.val = 1024 * (t.val / 4) + r.val) :
    blkX V t (ix2 r k) = X (ix2 R k) := by
  subst h
  unfold blkX
  blk_ext [(idx1 t).1]

theorem blkY_at (h : V (Pipeline.arrRef spec1 1) = transpose S512x8192 [1, 0] X transposes_S8192x512_S512x8192_1_0) (t : Fin cfg1.N) (k : Fin 512) (c : Fin 2048) (R : Fin 8192) (hR : R.val = 2048 * (t.val % 4) + c.val) :
    blkY V t (ix2 k c) = X (ix2 R k) := by
  have e : blkY V t (ix2 k c) = V (Pipeline.arrRef spec1 1) (ix2 k R) := by
    unfold blkY
    blk_ext [(idx1 t).2.1]
  rw [e, h]
  pointwise

theorem blkR_at (h : V (Pipeline.arrRef spec1 2) = (norms (F := Ideal) X : Vec Ideal S8192x1 .f32)) (t : Fin cfg1.N) (r : Fin 1024) (R : Fin 8192) (hR : R.val = 1024 * (t.val / 4) + r.val) :
    blkR V t (ix2 r 0) = ∑ k : Fin 512, X (ix2 R k) * X (ix2 R k) := by
  have e : blkR V t (ix2 r 0) = V (Pipeline.arrRef spec1 2) (ix2 R 0) := by
    unfold blkR
    blk_ext [(idx1 t).2.2.1]
  rw [e, h]
  unfold norms k0_pay1
  pointwise

theorem blkC_at (h : V (Pipeline.arrRef spec1 3) = transpose (α := Ideal .f32) S1x8192 [1, 0] (norms (F := Ideal) X) transposes_S8192x1_S1x8192_1_0) (t : Fin cfg1.N) (c : Fin 2048) (R : Fin 8192) (hR : R.val = 2048 * (t.val % 4) + c.val) :
    blkC V t (ix2 0 c) = ∑ k : Fin 512, X (ix2 R k) * X (ix2 R k) := by
  have e : blkC V t (ix2 0 c) = V (Pipeline.arrRef spec1 3) (ix2 0 R) := by
    unfold blkC
    blk_ext [(idx1 t).2.2.2.1]
  rw [e, h]
  unfold norms k0_pay1
  pointwise

/-- The distance of row `R` to a row, nought past the last. -/
def rowDist (R : Fin 8192) (c : ℕ) : EReal :=
  if h : c < 8192 then (∑ k : Fin 512, X (ix2 R k) * X (ix2 R k)) + (∑ k : Fin 512, X (ix2 ⟨c, h⟩ k) * X (ix2 ⟨c, h⟩ k))
    - Ideal.ofBits .f32 1073741824#32 * ∑ k : Fin 512, X (ix2 R k) * X (ix2 ⟨c, h⟩ k) else 0

/-- The arrays that the second kernel reads: the rows, the rows as columns, and the norms of both. -/
structure Reads : Prop where
  x : V (Pipeline.arrRef spec1 0) = X
  y : V (Pipeline.arrRef spec1 1) = transpose S512x8192 [1, 0] X transposes_S8192x512_S512x8192_1_0
  r : V (Pipeline.arrRef spec1 2) = (norms (F := Ideal) X : Vec Ideal S8192x1 .f32)
  c : V (Pipeline.arrRef spec1 3) = transpose (α := Ideal .f32) S1x8192 [1, 0] (norms (F := Ideal) X) transposes_S8192x1_S1x8192_1_0

theorem dist_at (h : Reads V X) (t : Fin cfg1.N) (r : Fin 1024) (R : Fin 8192) (hR : R.val = 1024 * (t.val / 4) + r.val) (c : Fin 2048) :
    dist (blkX V t) (blkY V t) (blkR V t) (blkC V t) (ix2 r c) = rowDist X R (2048 * (t.val % 4) + c.val) := by
  have hc : 2048 * (t.val % 4) + c.val < 8192 := by have := c.isLt; omega
  unfold rowDist
  rw [dif_pos hc]
  unfold dist k1_pay234
  pointwise
  simp only [blkX_at V X h.x t r _ R hR, blkY_at V X h.y t _ c ⟨_, hc⟩ rfl, blkR_at V X h.r t r R hR, blkC_at V X h.c t c ⟨_, hc⟩ rfl]

/-- Rows of reals are at real distances. -/
theorem rowDist_lt (hX : ∀ i, ∃ x : ℝ, X i = (x : EReal)) (R : Fin 8192) (c : ℕ) : rowDist X R c < ⊤ := by
  have sum : ∀ g : Fin 512 → EReal, (∀ k, ∃ x : ℝ, g k = (x : EReal)) → ∃ x : ℝ, ∑ k, g k = (x : EReal) := fun g h =>
    Finset.sum_induction g (fun v => ∃ x : ℝ, v = (x : EReal)) (fun _ _ ⟨x, hx⟩ ⟨y, hy⟩ => ⟨x + y, by rw [hx, hy]; rfl⟩) ⟨0, rfl⟩ fun k _ => h k
  have prod : ∀ P Q : Fin 8192, ∃ x : ℝ, ∑ k : Fin 512, X (ix2 P k) * X (ix2 Q k) = (x : EReal) := fun P Q => sum _ fun k => by
    obtain ⟨x, hx⟩ := hX (ix2 P k)
    obtain ⟨y, hy⟩ := hX (ix2 Q k)
    exact ⟨x * y, by rw [hx, hy]; rfl⟩
  have two : ∃ x : ℝ, Ideal.ofBits .f32 1073741824#32 = (x : EReal) := ⟨_, by simp [Ideal.ofBits, Ideal.ieee]; rfl⟩
  unfold rowDist
  split
  case isTrue h =>
    obtain ⟨u, hu⟩ := prod R R
    obtain ⟨v, hv⟩ := prod ⟨c, h⟩ ⟨c, h⟩
    obtain ⟨w, hw⟩ := prod R ⟨c, h⟩
    obtain ⟨z, hz⟩ := two
    rw [hu, hv, hw, hz, ← EReal.coe_mul, ← EReal.coe_add, ← EReal.coe_sub]
    exact EReal.coe_lt_top _
  case isFalse => exact EReal.zero_lt_top

/-! ## The lists -/

/-- After a grid point, the lists hold every row's sixteen least of the columns so far. -/
theorem stAt_rows (h : Reads V X) (hX : ∀ i, ∃ x : ℝ, X i = (x : EReal)) (t : ℕ) (ht : t < 32) (r : Fin 1024) (R : Fin 8192) (hR : R.val = 1024 * (t / 4) + r.val) :
    RowHolds (rowDist X R) (2048 * (t % 4) + 2048) (stAt V (t + 1)) r := by
  induction t using Nat.strong_induction_on with
  | _ t ih =>
    have e := stAt_succ V (⟨t, ht⟩ : Fin cfg1.N)
    rw [e]
    unfold stepAt
    rw [colBase_eq]
    refine rowHolds_step (rowDist_lt X hX R) (by show 2048 * (t % 4) ≤ 6144; omega) (by show 2048 * (t % 4) = 0 ∨ _; omega) ?_ (fun c => dist_at V X h ⟨t, ht⟩ r R hR c)
    show RowHolds (rowDist X R) (2048 * (t % 4)) _ r
    unfold start
    by_cases h0 : t % 4 = 0
    · rw [if_pos ((isFirst_iff ⟨t, ht⟩).mpr h0), h0]
      exact rowHolds_init _ r
    · rw [if_neg (fun hh => h0 ((isFirst_iff ⟨t, ht⟩).mp hh))]
      have := ih (t - 1) (by omega) (by omega) (by omega)
      rw [show t - 1 + 1 = t by omega, show 2048 * ((t - 1) % 4) + 2048 = 2048 * (t % 4) by omega] at this
      exact this

end Cert.KernelIdeal.Knn

end
-- ==== Proof.Out.lean ====
/- The results: each row's sixteen nearest, and the rows' numbers. -/
module

public import proofs.«01_k».proof.Proof.Kept
public import proofs.«01_k».proof.Proof.Point

@[expose] public section

set_option maxRecDepth 16384
set_option maxHeartbeats 400000

noncomputable section

namespace Cert.KernelIdeal.Knn

open Idealize.ShloMosaic Idealize.ShloMosaic.TcCoe Idealize.ShloMosaic.StableHlo Cert.KernelIdeal.Gen

variable (m : (ℓ : Loc nD τ sig) → Buf (Elt Ideal) ℓ) (c : Dev nD)

/-- The argument. -/
abbrev arg : Vec Ideal S8192x512 .f32 := m ((c : Thread nD τ).loc main_arg0)

theorem idx0 : ∀ t : Fin grid0.N, win0_0.index t = ![0, 0] ∧ win0_1.index t = ![0, 0] := by decide +kernel

/-- The first region leaves the norms. -/
theorem A1_norms : A1 m c (Proc.devRef .tc main_v0) = (norms (F := Ideal) (arg m c) : Vec Ideal S8192x1 .f32) := by
  refine (Pipeline.afterRegion_arr (dat0 (A0 m c) c) (A0 m c) launch0.win.arr_inj 1).trans ?_
  refine (dat0 (A0 m c) c).arrAt_eq_of_covers 1 _ (by decide +kernel) fun t hf y => ?_
  have e : ((cfg0.win 0).blk t0_0).view.read (Elt Ideal) (A0 m c (Pipeline.arrRef spec0 0)) = arg m c := by
    funext i
    blk_ext [(idx0 t0_0).1]
  show _ = norms (F := Ideal) (arg m c) _
  rw [← e]
  blk_simp
  refine congrArg (norms (F := Ideal) _) (show (y : S8192x1.Idx) = _ from ?_)
  blk_ext [(idx0 t).2]

theorem A2_x : A2 m c (Proc.devRef .tc main_arg0) = arg m c := (A2_arg m c).trans (A1_arg m c)

theorem reads : Reads (A2 m c) (arg m c) where
  x := A2_x m c
  y := by
    show StableHlo.after hostOps1 (A1 m c) (Proc.devRef .tc main_v1) = _
    after_results
    exact congrArg (fun x => transpose (α := Ideal .f32) S512x8192 [1, 0] x transposes_S8192x512_S512x8192_1_0) (A1_arg m c)
  r := by
    show StableHlo.after hostOps1 (A1 m c) (Proc.devRef .tc main_v0) = _
    after_results
    exact A1_norms m c
  c := by
    show StableHlo.after hostOps1 (A1 m c) (Proc.devRef .tc main_v2) = _
    after_results
    exact congrArg (fun x => transpose (α := Ideal .f32) S1x8192 [1, 0] x transposes_S8192x1_S1x8192_1_0) (A1_norms m c)

/-- The nearest rows' numbers. -/
def nearest (V : Valuation τ sig (Elt Ideal)) : IVec S8192x16 32 := fun i =>
  (stAt V (4 * ((i 0).val / 1024) + 4)).bi (ix2 ⟨(i 0).val % 1024, Nat.mod_lt _ (by decide)⟩ ⟨(i 1).val, Nat.lt_of_lt_of_le (i 1).isLt (by decide)⟩)

theorem nearest_eq (V : Valuation τ sig (Elt Ideal)) (i : S8192x16.Idx) (T : ℕ) (q : S1024x128.Idx) (hT : 4 * ((i 0).val / 1024) + 4 = T)
    (h0 : (q 0).val = (i 0).val % 1024) (h1 : (q 1).val = (i 1).val) : (stAt V T).bi q = nearest V i := by
  subst hT
  unfold nearest
  refine congrArg (stAt V (4 * ((i 0).val / 1024) + 4)).bi ?_
  funext a
  match a with
  | 0 => exact Fin.ext h0
  | 1 => exact Fin.ext h1

theorem flush_last : ∀ t : Fin cfg1.N, (cfg1.win 4).flush t = true → t.val % 4 = 3 := by decide +kernel

/-- The second region leaves them. -/
theorem A3_nearest : A3 m c (Proc.devRef .tc main_v3) = nearest (A2 m c) := by
  refine (Pipeline.afterRegion_arr (dat1 (A2 m c) c) (A2 m c) launch1.win.arr_inj 4).trans ?_
  refine (dat1 (A2 m c) c).arrAt_eq_of_covers 4 _ (by decide +kernel) fun t hf y => ?_
  have h3 := flush_last t hf
  show firstLanes (stAt (A2 m c) (t.val + 1)).bi _ = nearest (A2 m c) _
  have e0 : ((((cfg1.win 4).blk t).view.emb y 0 : Fin _) : ℕ) = t.val / 4 * 1024 + (y 0).val := by blk_simp [(idx1 t).2.2.2.2]
  have e1 : ((((cfg1.win 4).blk t).view.emb y 1 : Fin _) : ℕ) = (y 1).val := by blk_simp [(idx1 t).2.2.2.2]
  have hy : (y 0).val < 1024 := (y 0).isLt
  refine nearest_eq _ _ _ _ ?_ ?_ ?_
  · rw [e0]; omega
  · rw [e0]
    show 0 + 1 * (y 0).val = _
    omega
  · rw [e1]
    show 0 + 1 * (y 1).val = _
    omega

theorem A4_v4 : A4 m c (Proc.devRef .tc main_v4) = shapeCast S131072 (nearest (A2 m c)) shapeCasts_S8192x16_S131072 := by
  show StableHlo.after hostOps2 (A3 m c) (Proc.devRef .tc main_v4) = _
  after_results
  exact congrArg (fun x => shapeCast S131072 x shapeCasts_S8192x16_S131072) (A3_nearest m c)

/-- Place `p` of row `R`: the `p`-th least of the row's distances, by its column. -/
theorem nearest_at (hX : ∀ i, ∃ x : ℝ, arg m c i = (x : EReal)) (R : Fin 8192) (p : Fin 16) :
    ∃ v : EReal, IsNth (cols (rowDist (arg m c) R) 8192) p.val (key v (nearest (A2 m c) (ix2 R p)).toInt) := by
  have hR := R.isLt
  have h := (stAt_rows (A2 m c) (arg m c) (reads m c) hX (4 * (R.val / 1024) + 3) (by omega) ⟨R.val % 1024, Nat.mod_lt _ (by decide)⟩ R (by
    show R.val = 1024 * ((4 * (R.val / 1024) + 3) / 4) + R.val % 1024
    omega)).holds.nth ⟨p.val, Nat.lt_of_lt_of_le p.isLt (by decide)⟩ p.isLt (by omega)
  rw [show 2048 * ((4 * (R.val / 1024) + 3) % 4) + 2048 = 8192 by omega] at h
  exact ⟨_, h⟩

theorem A4_v7 : A4 m c (Proc.devRef .tc main_v7)
    = shapeCast S131072 (broadcastInDim S8192x16 ![0] bcast_S8192_S8192x16_0 (iotaInDim S8192 32 0)) shapeCasts_S8192x16_S131072 := by
  show StableHlo.after hostOps2 (A3 m c) (Proc.devRef .tc main_v7) = _
  after_results
  rfl

end Cert.KernelIdeal.Knn

end
-- ==== Proof.TopK.lean ====
/- The first entries of a stable sort by a value: the entry at place `t` is the `t`-th least key, the value compared
   first and the position then. -/
module

public import proofs.«01_k».proof.Proof.Keys
public import Idealize.ShloMosaic.Lib.SortPrefix

@[expose] public section

noncomputable section

namespace Cert.KernelIdeal.Knn

open Idealize.ShloMosaic

/-- Sorting a rising list of positions stably by the value is sorting it by the value and then the position. -/
theorem stableSort_eq {n : ℕ} (B R : Fin n → Fin n → Bool) (h : ∀ a b, a < b → R b a = B b a) (l : List (Fin n)) (hl : l.Pairwise (· < ·)) :
    stableSort B l = stableSort R l := by
  induction l with
  | nil => rfl
  | cons a l ih =>
    rw [List.pairwise_cons] at hl
    unfold stableSort
    rw [ih hl.2]
    exact insertBefore_congr B R a _ fun b hb => (h a b (hl.1 b ((perm_stableSort R l).mem_iff.mp hb))).symm

theorem isNth_sorted {n : ℕ} (d : ℕ → EReal) (B : Fin n → Fin n → Bool) (hB : ∀ a b : Fin n, B a b = true ↔ d a.val < d b.val) (t : Fin n) :
    IsNth (cols d n) t.val (key (d (sortedFrom B t).val) (sortedFrom B t).val) := by
  set R : Fin n → Fin n → Bool := fun a b => decide (key (d a.val) a.val < key (d b.val) b.val) with hR
  have lt : ∀ a b : Fin n, R a b = true ↔ key (d a.val) a.val < key (d b.val) b.val := fun a b => by simp [hR]
  have inj : ∀ a b : Fin n, key (d a.val) a.val = key (d b.val) b.val → a = b := fun a b h => by
    have h' : (a.val : ℤ) = (b.val : ℤ) := congrArg Key.idx h
    exact Fin.ext (by omega)
  have tot : StrictTotalBefore R := by
    refine ⟨fun a => ?_, fun a b c h h' => (lt a c).mpr (((lt a b).mp h).trans ((lt b c).mp h')), fun a b hne => ?_⟩
    · simp [hR]
    · rcases lt_trichotomy (key (d a.val) a.val) (key (d b.val) b.val) with h | h | h
      · exact .inl ((lt a b).mpr h)
      · exact absurd (inj a b h) hne
      · exact .inr ((lt b a).mpr h)
  have e : sortedFrom B = sortedFrom R := by
    have e' : sortPositions n B = sortPositions n R := by
      refine stableSort_eq B R (fun a b hab => ?_) _ (List.pairwise_lt_finRange n)
      rw [Bool.eq_iff_iff, lt, hB, key_lt]
      refine ⟨fun h => h.resolve_right fun h => ?_, Or.inl⟩
      have h1 : (b.val : ℤ) < (a.val : ℤ) := h.2
      have h2 : a.val < b.val := hab
      omega
    funext k
    unfold sortedFrom
    rw [List.get_of_eq e']
    rfl
  rw [e]
  have mono : ∀ i j : Fin n, i < j → key (d (sortedFrom R i).val) (sortedFrom R i).val < key (d (sortedFrom R j).val) (sortedFrom R j).val := fun i j hij => by
    have h := sortedFrom_noInversion R R (fun a b h => tot.asymm a b h) (fun _ _ h => h) tot.negTrans i j hij
    rcases tot.total _ _ (fun h' => absurd (sortedFrom_injective R h') hij.ne) with h' | h'
    · exact (lt _ _).mp h'
    · rw [h] at h'; exact absurd h' (by decide)
  refine ⟨mem_cols.mpr ⟨_, (sortedFrom R t).isLt, rfl⟩, ?_⟩
  have hset : (cols d n).filter (· < key (d (sortedFrom R t).val) (sortedFrom R t).val)
      = (Finset.univ.filter fun i : Fin n => i < t).image fun i => key (d (sortedFrom R i).val) (sortedFrom R i).val := by
    ext k
    rw [Finset.mem_filter, Finset.mem_image]
    constructor
    · rintro ⟨hk, hlt⟩
      obtain ⟨c, hc, rfl⟩ := mem_cols.mp hk
      obtain ⟨i, hi⟩ := sortedFrom_surjective R ⟨c, hc⟩
      have hci : (sortedFrom R i).val = c := by rw [hi]
      refine ⟨i, Finset.mem_filter.mpr ⟨Finset.mem_univ _, ?_⟩, by rw [hci]⟩
      by_contra hn
      rw [← hci] at hlt
      rcases (not_lt.mp hn).lt_or_eq with h | h
      · exact lt_asymm (mono t i h) hlt
      · rw [h] at hlt; exact lt_irrefl _ hlt
    · rintro ⟨i, hi, rfl⟩
      exact ⟨mem_cols.mpr ⟨_, (sortedFrom R i).isLt, rfl⟩, mono i t (Finset.mem_filter.mp hi).2⟩
  rw [hset, Finset.card_image_of_injective _ fun i j h => sortedFrom_injective R (inj _ _ h)]
  have : (Finset.univ.filter fun i : Fin n => i < t) = Finset.Iio t := by ext i; simp
  rw [this, Fin.card_Iio]

end Cert.KernelIdeal.Knn

end
-- ==== Proof.Ref.lean ====
/- The reference's results, entry by entry. -/
module

public import proofs.«01_k».proof.Proof.TopK
public import proofs.«01_k».proof.Proof.Gen.ReferenceIdeal.Run
public import Idealize.ShloMosaic.Lib.Pointwise

@[expose] public section

set_option maxRecDepth 16384
set_option maxHeartbeats 400000

noncomputable section

namespace Cert.ReferenceIdeal.Knn

open Idealize.ShloMosaic Cert.ReferenceIdeal Cert.ReferenceIdeal.Gen Cert.KernelIdeal.Knn

/-- The reference's table of negated distances. -/
def negDist (X : Vec Ideal S8192x512 .f32) : Vec Ideal S8192x8192 .f32 :=
  Host.negf (subf (addf
      (broadcastInDim S8192x8192 ![0, 1] bcast_S8192x1_S8192x8192_0_1 (broadcastInDim S8192x1 ![0] bcast_S8192_S8192x1_0
        (Host.reduceAdd (mulf X X) (constant (F := Ideal) S_ FTy.f32 0#32) reducesTo_S8192x512_S8192_d1 h_S_)))
      (broadcastInDim S8192x8192 ![0, 1] bcast_S1x8192_S8192x8192_0_1 (broadcastInDim S1x8192 ![1] bcast_S8192_S1x8192_1
        (Host.reduceAdd (mulf X X) (constant (F := Ideal) S_ FTy.f32 0#32) reducesTo_S8192x512_S8192_d1 h_S_))))
    (mulf (broadcastInDim S8192x8192 ![] bcast_S_S8192x8192 (constant (F := Ideal) S_ FTy.f32 1073741824#32))
      (Host.dotGeneral (F := Ideal) (φ₁ := .f32) (φ₂ := .f32) dot_S8192x512_S512x8192_S8192x8192_1_0_0_1_n_n none X (transpose (α := Ideal .f32) S512x8192 [1, 0] X transposes_S8192x512_S512x8192_1_0))))

theorem negDist_at (X : Vec Ideal S8192x512 .f32) (R C : Fin 8192) : negDist X (ix2 R C)
    = -((∑ k : Fin 512, X (ix2 R k) * X (ix2 R k)) + (∑ k : Fin 512, X (ix2 C k) * X (ix2 C k))
        - Ideal.ofBits .f32 1073741824#32 * ∑ k : Fin 512, X (ix2 R k) * X (ix2 C k)) := by
  unfold negDist
  pointwise

theorem gt_iff (a b : EReal) : ((FloatOps.cmpfTotal (F := Ideal) (φ := .f32) .gt a b : BitVec 1) == 1#1) = true ↔ b < a := by
  show ((Ideal.cmpTotal .gt a b : BitVec 1) == 1#1) = true ↔ b < a
  unfold Ideal.cmpTotal Ideal.cmp
  by_cases h : b < a <;> simp [h, CmpDirection.ordered]

/-- A table's greatest of a row, by their columns: the `p`-th is the `p`-th least of the distances. -/
theorem topK_at {n m k : ℕ} (Y : Vec Ideal ⟨2, ![n, m]⟩ .f32) (d : ℕ → EReal) (R : Fin n) (hY : ∀ C : Fin m, Y (ix2 R C) = -d C.val) (p : Fin k)
    (h : Shape.Slices ⟨2, ![n, m]⟩ (fun _ => 0) ⟨2, ![n, k]⟩) :
    ∃ c : Fin m, (Host.topK ⟨2, ![n, k]⟩ 1 (FloatOps.cmpfTotal (F := Ideal) (φ := .f32) .gt) Y h).2 (ix2 R p) = BitVec.ofNat 32 c.val
      ∧ IsNth (cols d m) p.val (key (d c.val) c.val) := by
  have hp : p.val < m := Nat.lt_of_lt_of_le (by rw [Nat.zero_add]; exact p.isLt) (h.2 1)
  set B : Fin m → Fin m → Bool := fun a b => (FloatOps.cmpfTotal (F := Ideal) (φ := .f32) .gt (Y (ix2 R a)) (Y (ix2 R b)) : BitVec 1) == 1#1 with hB
  have hB' : ∀ a b : Fin m, B a b = true ↔ d a.val < d b.val := fun a b => by
    rw [hB]
    show ((FloatOps.cmpfTotal (F := Ideal) (φ := .f32) .gt (Y (ix2 R a)) (Y (ix2 R b)) : BitVec 1) == 1#1) = true ↔ _
    rw [gt_iff, hY, hY]
    exact EReal.neg_lt_neg_iff
  refine ⟨_, ?_, isNth_sorted d B hB' ⟨p.val, hp⟩⟩
  have upd : ∀ P q : Fin m, Shape.Idx.along (s := ⟨2, ![n, m]⟩) (ix2 R P) 1 q = ix2 R q := fun P q => by
    funext a
    match a with
    | 0 => rfl
    | 1 => rfl
  have key : ∀ J : Shape.Idx ⟨2, ![n, m]⟩, J = ix2 R ⟨p.val, hp⟩ →
      (Host.sort2 ⟨2, ![n, m]⟩ 1 (fun l r : Ideal .f32 × BitVec 32 => FloatOps.cmpfTotal (F := Ideal) (φ := .f32) .gt l.1 r.1) Y
        (fun i => if hd : 1 < Shape.rank ⟨2, ![n, m]⟩ then iotaInDim ⟨2, ![n, m]⟩ 32 ⟨1, hd⟩ i else 0#32)).2 J
        = BitVec.ofNat 32 (sortedFrom B ⟨p.val, hp⟩).val := fun J hJ => by
    subst hJ
    unfold Host.sort2
    rw [dif_pos (show 1 < Shape.rank ⟨2, ![n, m]⟩ from Nat.one_lt_two)]
    have e : ∀ P q : Fin m, Y (Shape.Idx.along (s := ⟨2, ![n, m]⟩) (ix2 R P) 1 q) = Y (ix2 R q) := fun P q => congrArg Y (upd P q)
    have e' : (fun q q' : Fin m => (FloatOps.cmpfTotal (F := Ideal) (φ := .f32) .gt (Y (Shape.Idx.along (s := ⟨2, ![n, m]⟩) (ix2 R ⟨p.val, hp⟩) 1 q))
        (Y (Shape.Idx.along (s := ⟨2, ![n, m]⟩) (ix2 R ⟨p.val, hp⟩) 1 q')) : BitVec 1) == 1#1) = B := by
      funext q q'
      rw [e, e]
    rw [← e']
    rfl
  refine key _ ?_
  funext a
  match a with
  | 0 => exact Fin.ext (Nat.zero_add _)
  | 1 => exact Fin.ext (Nat.zero_add _)

end Cert.ReferenceIdeal.Knn
end
-- ==== Proof.Agree.lean ====
/- Rows of reals, and the kernel's results against the reference's. -/
module

public import proofs.«01_k».proof.Proof.Out
public import proofs.«01_k».proof.Proof.Ref

@[expose] public section

set_option maxRecDepth 16384
set_option maxHeartbeats 400000

noncomputable section

namespace Cert.Proof

open Idealize.ShloMosaic Idealize.SL.Sem Cert.KernelIdeal.Knn

theorem pre_facts : Cert.Pre_finite.Facts := ⟨by decide⟩

theorem idx_eq {n k : ℕ} (i : Shape.Idx ⟨2, ![n, k]⟩) : ∃ (a : Fin n) (b : Fin k), i = ix2 a b :=
  ⟨i 0, i 1, funext fun a => match a with | 0 => rfl | 1 => rfl⟩

/-- Under the precondition every entry is a real. -/
theorem real_of_pre [Cert.Pre_finite.Facts] (X : Vec Ideal Cert.Pre_finite.S8192x512 .f32) (h : Cert.Pre_finite.fn (F := Ideal) X = fun _ => 1#1) (i) :
    ∃ x : ℝ, X i = (x : EReal) := by
  have e : Cert.Pre_finite.fn (F := Ideal) X i = BitVec.ofBool (decide (max (X i) (-X i) < Ideal.ofBits .f32 2139095040#32)) := rfl
  have hi := e.symm.trans (congrFun h i)
  rw [inf_top] at hi
  have hlt : max (X i) (-X i) < (⊤ : EReal) := by
    by_contra hn
    rw [decide_eq_false hn] at hi
    exact absurd hi (by decide)
  have h1 : X i ≠ (⊤ : EReal) := fun hx => by
    have := lt_of_le_of_lt (le_max_left (X i : EReal) (-X i)) hlt
    rw [hx] at this
    exact lt_irrefl _ this
  have h2 : X i ≠ (⊥ : EReal) := fun hx => by
    have := lt_of_le_of_lt (le_max_right (X i : EReal) (-X i)) hlt
    rw [hx, EReal.neg_bot] at this
    exact lt_irrefl _ this
  exact ⟨EReal.toReal (X i), (EReal.coe_toReal h1 h2).symm⟩

/-- Place `p` of row `R`, in both programs. -/
theorem same_nearest (m : (ℓ : Loc Cert.KernelIdeal.nD Cert.KernelIdeal.τ Cert.KernelIdeal.sig) → Buf (Elt Ideal) ℓ) (c : Dev Cert.KernelIdeal.nD)
    (hX : ∀ i, ∃ x : ℝ, arg m c i = (x : EReal)) :
    nearest (A2 m c) = (Host.topK Cert.ReferenceIdeal.S8192x16 1 (FloatOps.cmpfTotal (F := Ideal) (φ := .f32) .gt) (Cert.ReferenceIdeal.Knn.negDist (arg m c))
      Cert.ReferenceIdeal.Gen.sliceFits_S8192x8192_S8192x16).2 := by
  funext i
  obtain ⟨R, p, rfl⟩ := idx_eq i
  obtain ⟨v, hv⟩ := nearest_at m c hX R p
  obtain ⟨k, hk, hn⟩ := Cert.ReferenceIdeal.Knn.topK_at (n := 8192) (m := 8192) (k := 16) (Cert.ReferenceIdeal.Knn.negDist (arg m c)) (rowDist (arg m c) R) R (fun C => by
    rw [Cert.ReferenceIdeal.Knn.negDist_at]
    unfold rowDist
    rw [dif_pos C.isLt]) p Cert.ReferenceIdeal.Gen.sliceFits_S8192x8192_S8192x16
  refine Eq.trans ?_ hk.symm
  have e : (nearest (A2 m c) (ix2 R p)).toInt = (k.val : ℤ) := congrArg Key.idx (hv.unique hn)
  have hk' := k.isLt
  exact BitVec.eq_of_toInt_eq (e.trans (toInt_small k.val (by omega)).symm)

end Cert.Proof

end
-- ==== Proof.lean ====
/- The certificate's claims, from the modules of the proof. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kept
public import proofs.«01_k».proof.Proof.Agree
public import Idealize.ShloMosaic.Adequacy
public import Idealize.ShloMosaic.Init

@[expose] public section

noncomputable section

namespace Cert.Proof

open Idealize.ShloMosaic Idealize.SL.Sem Cert.KernelIdeal.Knn

/-- The reference's frame. -/
theorem ref_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run m g)

theorem mem_v4 : (Proc.devRef .tc Cert.KernelIdeal.main_v4 : DevRef Cert.KernelIdeal.τ Cert.KernelIdeal.sig) ∈ Pipeline.ucRefs Cert.KernelIdeal.τ Cert.KernelIdeal.sig :=
  Finset.mem_filter.mpr ⟨StableHlo.devRef_mem_tcRefs Cert.KernelIdeal.main_v4, by decide⟩
theorem mem_v7 : (Proc.devRef .tc Cert.KernelIdeal.main_v7 : DevRef Cert.KernelIdeal.τ Cert.KernelIdeal.sig) ∈ Pipeline.ucRefs Cert.KernelIdeal.τ Cert.KernelIdeal.sig :=
  Finset.mem_filter.mpr ⟨StableHlo.devRef_mem_tcRefs Cert.KernelIdeal.main_v7, by decide⟩
theorem mem_arg0 : (Proc.devRef .tc Cert.KernelIdeal.main_arg0 : DevRef Cert.KernelIdeal.τ Cert.KernelIdeal.sig) ∈ Pipeline.ucRefs Cert.KernelIdeal.τ Cert.KernelIdeal.sig :=
  Finset.mem_filter.mpr ⟨StableHlo.devRef_mem_tcRefs Cert.KernelIdeal.main_arg0, by decide⟩

/-- On rows of reals the kernel's results are the reference's. -/
theorem agree : Cert.algebraic_KernelIdeal_ReferenceIdeal_pre_finite (hKernelIdeal := Cert.KernelIdeal.Gen.facts) (hReferenceIdeal := Cert.ReferenceIdeal.Gen.facts)
    (hPre_finite := pre_facts) := by
  intro m g m' g' hpre hm
  refine ⟨fun c => A4 m c (Proc.devRef .tc Cert.KernelIdeal.main_v4), fun c => A4 m c (Proc.devRef .tc Cert.KernelIdeal.main_v7),
    (θ_run _ _ _).mono (fun r h c => ⟨h.1 c _ mem_v4,
      h.1 c _ mem_v7,
      (h.1 c _ mem_arg0).trans (A4_kept m c)⟩) (run_main m g),
    (θ_run _ _ _).mono (fun r h c => ⟨(h c).1.trans ?_, (h c).2.1.trans (A4_v7 m c).symm, (h c).2.2⟩) (Cert.ReferenceIdeal.Value.run m' g')⟩
  rw [hm c]
  exact (congrArg (fun x => shapeCast Cert.ReferenceIdeal.S131072 x Cert.ReferenceIdeal.Gen.shapeCasts_S8192x16_S131072)
    (same_nearest m c (@real_of_pre pre_facts (arg m c) (hpre c)))).symm.trans (A4_v4 m c).symm

theorem claim : Cert.Claim := ⟨Cert.Kernel.Gen.facts, Cert.KernelIdeal.Gen.facts, Cert.ReferenceIdeal.Gen.facts, pre_facts,
  frame_same (frame_at Bits), fun m g _ => frame_at Ideal m g, fun m g _ => frame_at Ideal m g, ref_frame,
  fun m g _ => ref_frame m g (by trivial), trivial, agree⟩

end Cert.Proof

end
